-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_linear_weights_finite [hPre_linear_weights_finite : Cert.Pre_linear_weights_finite.Facts] (m : (ℓ : Loc Cert.KernelIdeal.nD Cert.KernelIdeal.τ Cert.KernelIdeal.sig) → Buf (Elt Ideal) ℓ) : Prop :=
  ∀ c : Dev Cert.KernelIdeal.nD,
    (Cert.Pre_linear_weights_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_linear_weights_finite [hPre_linear_weights_finite : Cert.Pre_linear_weights_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_linear_weights_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_linear_weights_finite [hKernelIdeal : Cert.KernelIdeal.Facts] [hPre_linear_weights_finite : Cert.Pre_linear_weights_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_linear_weights_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_linear_weights_finite [hReferenceIdeal : Cert.ReferenceIdeal.Facts] [hPre_linear_weights_finite : Cert.Pre_linear_weights_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_linear_weights_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_linear_weights_finite [hKernelIdeal : Cert.KernelIdeal.Facts] [hReferenceIdeal : Cert.ReferenceIdeal.Facts] [hPre_linear_weights_finite : Cert.Pre_linear_weights_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_linear_weights_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_linear_weights_finite : Cert.Pre_linear_weights_finite.Facts),
    quiescent_Kernel (hKernel := hKernel)
    ∧ quiescent_KernelIdeal (hKernelIdeal := hKernelIdeal)
    ∧ quiescent_KernelIdeal_pre_linear_weights_finite (hKernelIdeal := hKernelIdeal) (hPre_linear_weights_finite := hPre_linear_weights_finite)
    ∧ quiescent_ReferenceIdeal (hReferenceIdeal := hReferenceIdeal)
    ∧ quiescent_ReferenceIdeal_pre_linear_weights_finite (hReferenceIdeal := hReferenceIdeal) (hPre_linear_weights_finite := hPre_linear_weights_finite)
    ∧ preserves_Kernel_KernelIdeal
    ∧ algebraic_KernelIdeal_ReferenceIdeal_pre_linear_weights_finite (hKernelIdeal := hKernelIdeal) (hReferenceIdeal := hReferenceIdeal) (hPre_linear_weights_finite := hPre_linear_weights_finite)
-- ==== Pre_linear_weights_finite.lean ====
abbrev S1024x100000 : Shape := ⟨2, ![1024, 100000]⟩
abbrev S_ : Shape := ⟨0, ![]⟩
abbrev S100000x64 : Shape := ⟨2, ![100000, 64]⟩
abbrev S1x100000 : Shape := ⟨2, ![1, 100000]⟩
abbrev S1 : Shape := ⟨1, ![1]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩

class Facts : Prop where
  bcast_S_S1x100000 : S_.BroadcastsInDim S1x100000 (![] : Fin 0 → Fin S1x100000.rank)

variable [Facts]

def fn {F : FTy → Type} [FloatOps F] (main_arg0 : FVec F S1024x100000 .f32) (main_arg1 : IVec S_ 32) (main_arg2 : FVec F S100000x64 .f32) (main_arg3 : FVec F S1x100000 .f32) (main_arg4 : FVec F S1 .f32) (main_arg5 : FVec F S64x64 .f32) (main_arg6 : FVec F S64 .f32) (main_arg7 : FVec F S32x64 .f32) (main_arg8 : FVec F S32 .f32) (main_arg9 : FVec F S1x32 .f32) : IVec S1x100000 1 :=
  let main_v0 : FVec F S1x100000 .f32 := Host.absf main_arg3
  let main_cst : FVec F S_ .f32 := constant S_ .f32 0x7F800000#32
  let main_v1 : FVec F S1x100000 .f32 := broadcastInDim S1x100000 ![] bcast_S_S1x100000 main_cst
  let main_v2 : IVec S1x100000 1 := cmpf .olt main_v0 main_v1
  main_v2
-- ==== Kernel.lean ====
abbrev S1024x100000 : Shape := ⟨2, ![1024, 100000]⟩
abbrev S_ : Shape := ⟨0, ![]⟩
abbrev S100000x64 : Shape := ⟨2, ![100000, 64]⟩
abbrev S1x100000 : Shape := ⟨2, ![1, 100000]⟩
abbrev S1 : Shape := ⟨1, ![1]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S100000 : Shape := ⟨1, ![100000]⟩
abbrev S100000x1 : Shape := ⟨2, ![100000, 1]⟩
abbrev S100000x2 : Shape := ⟨2, ![100000, 2]⟩
abbrev S1024 : Shape := ⟨1, ![1024]⟩
abbrev S8x1024x1024 : Shape := ⟨3, ![8, 1024, 1024]⟩
abbrev S8x1024x64 : Shape := ⟨3, ![8, 1024, 64]⟩
abbrev S8x1024x2 : Shape := ⟨3, ![8, 1024, 2]⟩
abbrev S1024x640 : Shape := ⟨2, ![1024, 640]⟩
abbrev S640x64 : Shape := ⟨2, ![640, 64]⟩
abbrev S640x2 : Shape := ⟨2, ![640, 2]⟩
abbrev S1024x32 : Shape := ⟨2, ![1024, 32]⟩
abbrev S32x2 : Shape := ⟨2, ![32, 2]⟩
abbrev S1024x128 : Shape := ⟨2, ![1024, 128]⟩
abbrev S1024x64 : Shape := ⟨2, ![1024, 64]⟩
abbrev S8 : Shape := ⟨1, ![8]⟩
abbrev S6 : Shape := ⟨1, ![6]⟩
abbrev S1x1024x1024 : Shape := ⟨3, ![1, 1024, 1024]⟩
abbrev S1024x1024 : Shape := ⟨2, ![1024, 1024]⟩
abbrev S1x1024x64 : Shape := ⟨3, ![1, 1024, 64]⟩
abbrev S1x1024x2 : Shape := ⟨3, ![1, 1024, 2]⟩
abbrev S1024x2 : Shape := ⟨2, ![1024, 2]⟩
abbrev S1024x62 : Shape := ⟨2, ![1024, 62]⟩
abbrev S640x62 : Shape := ⟨2, ![640, 62]⟩
abbrev S640x128 : Shape := ⟨2, ![640, 128]⟩
abbrev S32x62 : Shape := ⟨2, ![32, 62]⟩
abbrev S32x128 : Shape := ⟨2, ![32, 128]⟩
abbrev S1024x1 : Shape := ⟨2, ![1024, 1]⟩
abbrev S1x64 : Shape := ⟨2, ![1, 64]⟩
abbrev S64x32 : Shape := ⟨2, ![64, 32]⟩
abbrev S32x1 : Shape := ⟨2, ![32, 1]⟩

abbrev nBuf : Space → Nat
  | .hbm => 19
  | .vmem => 18
  | .smem => 0
  | _ => 0

abbrev bufTy : (tb : Table) → Fin (tcTables nBuf tb) → BufTy
  | .hbm, ⟨0, _⟩ => ⟨S1024x100000, .f32⟩
  | .hbm, ⟨1, _⟩ => ⟨S_, .i32⟩
  | .hbm, ⟨2, _⟩ => ⟨S100000x64, .f32⟩
  | .hbm, ⟨3, _⟩ => ⟨S1x100000, .f32⟩
  | .hbm, ⟨4, _⟩ => ⟨S1, .f32⟩
  | .hbm, ⟨5, _⟩ => ⟨S64x64, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S1x32, .f32⟩
  | .hbm, ⟨10, _⟩ => ⟨S100000, .f32⟩
  | .hbm, ⟨11, _⟩ => ⟨S100000, .bf16⟩
  | .hbm, ⟨12, _⟩ => ⟨S100000, .f32⟩
  | .hbm, ⟨13, _⟩ => ⟨S100000, .f32⟩
  | .hbm, ⟨14, _⟩ => ⟨S100000, .bf16⟩
  | .hbm, ⟨15, _⟩ => ⟨S100000x1, .bf16⟩
  | .hbm, ⟨16, _⟩ => ⟨S100000x1, .bf16⟩
  | .hbm, ⟨17, _⟩ => ⟨S100000x2, .bf16⟩
  | .hbm, ⟨18, _⟩ => ⟨S1024, .f32⟩
  | .local _ .vmem, ⟨0, _⟩ => ⟨S64x64, .f32⟩
  | .local _ .vmem, ⟨1, _⟩ => ⟨S64, .f32⟩
  | .local _ .vmem, ⟨2, _⟩ => ⟨S32x64, .f32⟩
  | .local _ .vmem, ⟨3, _⟩ => ⟨S32, .f32⟩
  | .local _ .vmem, ⟨4, _⟩ => ⟨S1x32, .f32⟩
  | .local _ .vmem, ⟨5, _⟩ => ⟨S1, .f32⟩
  | .local _ .vmem, ⟨6, _⟩ => ⟨S1024, .f32⟩
  | .local _ .vmem, ⟨7, _⟩ => ⟨S8x1024x1024, .f32⟩
  | .local _ .vmem, ⟨8, _⟩ => ⟨S8x1024x64, .f32⟩
  | .local _ .vmem, ⟨9, _⟩ => ⟨S8x1024x2, .bf16⟩
  | .local _ .vmem, ⟨10, _⟩ => ⟨S1024x640, .f32⟩
  | .local _ .vmem, ⟨11, _⟩ => ⟨S640x64, .f32⟩
  | .local _ .vmem, ⟨12, _⟩ => ⟨S640x2, .bf16⟩
  | .local _ .vmem, ⟨13, _⟩ => ⟨S1024x32, .f32⟩
  | .local _ .vmem, ⟨14, _⟩ => ⟨S32x64, .f32⟩
  | .local _ .vmem, ⟨15, _⟩ => ⟨S32x2, .bf16⟩
  | .local _ .vmem, ⟨16, _⟩ => ⟨S1024x128, .f32⟩
  | .local _ .vmem, ⟨17, _⟩ => ⟨S1024x64, .f32⟩
  | _, _ => ⟨S1024x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_scratch5 : Ref sig .tc := ⟨.vmem, 12, rfl⟩
abbrev cc0_scratch6 : Ref sig .tc := ⟨.vmem, 13, rfl⟩
abbrev cc0_scratch7 : Ref sig .tc := ⟨.vmem, 14, rfl⟩
abbrev cc0_scratch8 : Ref sig .tc := ⟨.vmem, 15, rfl⟩
abbrev cc0_scratch9 : Ref sig .tc := ⟨.vmem, 16, rfl⟩
abbrev cc0_scratch10 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![97], ![false]⟩

def k0_off1 (i : grid0.Coords) : Fin 1 → Nat :=
  let arg0 : BitVec 32 := BitVec.ofNat 32 (i 0).val
  let c8_i32 : BitVec 32 := 8#32
  let v3 : BitVec 32 := Scalar.remsi arg0 c8_i32
  ![v3.toNat]
def k0_off2 (i : grid0.Coords) : Fin 3 → Nat :=
  let arg0 : BitVec 32 := BitVec.ofNat 32 (i 0).val
  let c8_i32 : BitVec 32 := 8#32
  let v3 : BitVec 32 := Scalar.remsi arg0 c8_i32
  let c0_i32_1 : BitVec 32 := 0#32
  let c0_i32_2 : BitVec 32 := 0#32
  ![v3.toNat, 0, 0]
def k0_off3 (i : grid0.Coords) : Fin 2 → Nat :=
  let c0_i32_3 : BitVec 32 := 0#32
  let arg0 : BitVec 32 := BitVec.ofNat 32 (i 0).val
  let c1024_i32 : BitVec 32 := 1024#32
  let v4 : BitVec 32 := Scalar.muli arg0 c1024_i32
  ![0, v4.toNat]
def k0_off4 (i : grid0.Coords) : Fin 3 → Nat :=
  let arg0 : BitVec 32 := BitVec.ofNat 32 (i 0).val
  let c8_i32 : BitVec 32 := 8#32
  let v3 : BitVec 32 := Scalar.remsi arg0 c8_i32
  let c0_i32_4 : BitVec 32 := 0#32
  let c0_i32_5 : BitVec 32 := 0#32
  ![v3.toNat, 0, 0]
def k0_off5 (i : grid0.Coords) : Fin 2 → Nat :=
  let arg0 : BitVec 32 := BitVec.ofNat 32 (i 0).val
  let c1024_i32 : BitVec 32 := 1024#32
  let v4 : BitVec 32 := Scalar.muli arg0 c1024_i32
  let c0_i32_6 : BitVec 32 := 0#32
  ![v4.toNat, 0]
def k0_off6 (i : grid0.Coords) : Fin 3 → Nat :=
  let arg0 : BitVec 32 := BitVec.ofNat 32 (i 0).val
  let c8_i32 : BitVec 32 := 8#32
  let v3 : BitVec 32 := Scalar.remsi arg0 c8_i32
  let c0_i32_7 : BitVec 32 := 0#32
  let c0_i32_8 : BitVec 32 := 0#32
  ![v3.toNat, 0, 0]
def k0_off7 (i : grid0.Coords) : Fin 2 → Nat :=
  let arg0 : BitVec 32 := BitVec.ofNat 32 (i 0).val
  let c1024_i32 : BitVec 32 := 1024#32
  let v4 : BitVec 32 := Scalar.muli arg0 c1024_i32
  let c0_i32_9 : BitVec 32 := 0#32
  ![v4.toNat, 0]
def k0_off8 (i : grid0.Coords) : Fin 3 → Nat :=
  let arg0 : BitVec 32 := BitVec.ofNat 32 (i 0).val
  let c8_i32 : BitVec 32 := 8#32
  let v3 : BitVec 32 := Scalar.remsi arg0 c8_i32
  let v20 : Index := Scalar.indexCast v3
  let c0 : Index := 0#32
  let c0_10 : Index := 0#32
  ![v20.toNat, 0, 0]
def k0_off9 (i : grid0.Coords) : Fin 3 → Nat :=
  let arg0 : BitVec 32 := BitVec.ofNat 32 (i 0).val
  let c8_i32 : BitVec 32 := 8#32
  let v3 : BitVec 32 := Scalar.remsi arg0 c8_i32
  let v23 : Index := Scalar.indexCast v3
  let c0_11 : Index := 0#32
  let c0_12 : Index := 0#32
  ![v23.toNat, 0, 0]
def k0_off10 (i : grid0.Coords) : Fin 3 → Nat :=
  let arg0 : BitVec 32 := BitVec.ofNat 32 (i 0).val
  let c8_i32 : BitVec 32 := 8#32
  let v3 : BitVec 32 := Scalar.remsi arg0 c8_i32
  let v26 : Index := Scalar.indexCast v3
  let c0_13 : Index := 0#32
  let c0_14 : Index := 0#32
  ![v26.toNat, 0, 0]
def k0_cond2 (i : grid0.Coords) : BitVec 1 :=
  let arg0 : BitVec 32 := BitVec.ofNat 32 (i 0).val
  let c8_i32_24 : BitVec 32 := 8#32
  let v51 : BitVec 32 := Scalar.addi arg0 c8_i32_24
  let c97_i32 : BitVec 32 := 97#32
  let v52 : BitVec 1 := Scalar.cmpi .slt v51 c97_i32
  let v53 : BitVec 32 := Scalar.extui v52
  let c0_i32_25 : BitVec 32 := 0#32
  let v54 : BitVec 1 := Scalar.cmpi .ne v53 c0_i32_25
  v54

def k0_off11 (i : grid0.Coords) : Fin 1 → Nat :=
  let arg0 : BitVec 32 := BitVec.ofNat 32 (i 0).val
  let c8_i32_24 : BitVec 32 := 8#32
  let v51 : BitVec 32 := Scalar.addi arg0 c8_i32_24
  let c8_i32_27 : BitVec 32 := 8#32
  let v58 : BitVec 32 := Scalar.remsi v51 c8_i32_27
  ![v58.toNat]
def k0_off12 (i : grid0.Coords) : Fin 3 → Nat :=
  let arg0 : BitVec 32 := BitVec.ofNat 32 (i 0).val
  let c8_i32_24 : BitVec 32 := 8#32
  let v51 : BitVec 32 := Scalar.addi arg0 c8_i32_24
  let c8_i32_27 : BitVec 32 := 8#32
  let v58 : BitVec 32 := Scalar.remsi v51 c8_i32_27
  let c0_i32_29 : BitVec 32 := 0#32
  let c0_i32_30 : BitVec 32 := 0#32
  ![v58.toNat, 0, 0]
def k0_off13 (i : grid0.Coords) : Fin 2 → Nat :=
  let c0_i32_31 : BitVec 32 := 0#32
  let arg0 : BitVec 32 := BitVec.ofNat 32 (i 0).val
  let c8_i32_24 : BitVec 32 := 8#32
  let v51 : BitVec 32 := Scalar.addi arg0 c8_i32_24
  let c1024_i32_28 : BitVec 32 := 1024#32
  let v59 : BitVec 32 := Scalar.muli v51 c1024_i32_28
  ![0, v59.toNat]
def k0_off14 (i : grid0.Coords) : Fin 3 → Nat :=
  let arg0 : BitVec 32 := BitVec.ofNat 32 (i 0).val
  let c8_i32_24 : BitVec 32 := 8#32
  let v51 : BitVec 32 := Scalar.addi arg0 c8_i32_24
  let c8_i32_27 : BitVec 32 := 8#32
  let v58 : BitVec 32 := Scalar.remsi v51 c8_i32_27
  let c0_i32_32 : BitVec 32 := 0#32
  let c0_i32_33 : BitVec 32 := 0#32
  ![v58.toNat, 0, 0]
def k0_off15 (i : grid0.Coords) : Fin 2 → Nat :=
  let arg0 : BitVec 32 := BitVec.ofNat 32 (i 0).val
  let c8_i32_24 : BitVec 32 := 8#32
  let v51 : BitVec 32 := Scalar.addi arg0 c8_i32_24
  let c1024_i32_28 : BitVec 32 := 1024#32
  let v59 : BitVec 32 := Scalar.muli v51 c1024_i32_28
  let c0_i32_34 : BitVec 32 := 0#32
  ![v59.toNat, 0]
def k0_off16 (i : grid0.Coords) : Fin 3 → Nat :=
  let arg0 : BitVec 32 := BitVec.ofNat 32 (i 0).val
  let c8_i32_24 : BitVec 32 := 8#32
  let v51 : BitVec 32 := Scalar.addi arg0 c8_i32_24
  let c8_i32_27 : BitVec 32 := 8#32
  let v58 : BitVec 32 := Scalar.remsi v51 c8_i32_27
  let c0_i32_35 : BitVec 32 := 0#32
  let c0_i32_36 : BitVec 32 := 0#32
  ![v58.toNat, 0, 0]
def k0_off17 (i : grid0.Coords) : Fin 2 → Nat :=
  let arg0 : BitVec 32 := BitVec.ofNat 32 (i 0).val
  let c8_i32_24 : BitVec 32 := 8#32
  let v51 : BitVec 32 := Scalar.addi arg0 c8_i32_24
  let c1024_i32_28 : BitVec 32 := 1024#32
  let v59 : BitVec 32 := Scalar.muli v51 c1024_i32_28
  let c0_i32_37 : BitVec 32 := 0#32
  ![v59.toNat, 0]
def k0_cond3 (i : grid0.Coords) : BitVec 1 :=
  let arg0 : BitVec 32 := BitVec.ofNat 32 (i 0).val
  let c96_i32 : BitVec 32 := 96#32
  let v55 : BitVec 1 := Scalar.cmpi .eq arg0 c96_i32
  let v56 : BitVec 32 := Scalar.extui v55
  let c0_i32_26 : BitVec 32 := 0#32
  let v57 : BitVec 1 := Scalar.cmpi .ne v56 c0_i32_26
  v57

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1024x100000 : Shape := ⟨2, ![1024, 100000]⟩
abbrev S_ : Shape := ⟨0, ![]⟩
abbrev S100000x64 : Shape := ⟨2, ![100000, 64]⟩
abbrev S1x100000 : Shape := ⟨2, ![1, 100000]⟩
abbrev S1 : Shape := ⟨1, ![1]⟩
abbrev S64x64 : Shape := ⟨2, ![64, 64]⟩
abbrev S64 : Shape := ⟨1, ![64]⟩
abbrev S32x64 : Shape := ⟨2, ![32, 64]⟩
abbrev S32 : Shape := ⟨1, ![32]⟩
abbrev S1x32 : Shape := ⟨2, ![1, 32]⟩
abbrev S1024x64 : Shape := ⟨2, ![1024, 64]⟩
abbrev S1x64 : Shape := ⟨2, ![1, 64]⟩
abbrev S64x32 : Shape := ⟨2, ![64, 32]⟩
abbrev S1024x32 : Shape := ⟨2, ![1024, 32]⟩
abbrev S32x1 : Shape := ⟨2, ![32, 1]⟩
abbrev S1024x1 : Shape := ⟨2, ![1024, 1]⟩
abbrev S100000x1 : Shape := ⟨2, ![100000, 1]⟩
abbrev S1x1 : Shape := ⟨2, ![1, 1]⟩
abbrev S1024 : Shape := ⟨1, ![1024]⟩

abbrev nBuf : Space → Nat
  | .hbm => 44
  | .vmem => 0
  | .smem => 0
  | _ => 0

abbrev bufTy : (tb : Table) → Fin (tcTables nBuf tb) → BufTy
  | .hbm, ⟨0, _⟩ => ⟨S1024x100000, .f32⟩
  | .hbm, ⟨1, _⟩ => ⟨S_, .i32⟩
  | .hbm, ⟨2, _⟩ => ⟨S100000x64, .f32⟩
  | .hbm, ⟨3, _⟩ => ⟨S1x100000, .f32⟩
  | .hbm, ⟨4, _⟩ => ⟨S1, .f32⟩
  | .hbm, ⟨5, _⟩ => ⟨S64x64, .f32⟩
  | .hbm, ⟨6, _⟩ => ⟨S64, .f32⟩
  | .hbm, ⟨7, _⟩ => ⟨S32x64, .f32⟩
  | .hbm, ⟨8, _⟩ => ⟨S32, .f32⟩
  | .hbm, ⟨9, _⟩ => ⟨S1x32, .f32⟩
  | .hbm, ⟨10, _⟩ => ⟨S1024x64, .f32⟩
  | .hbm, ⟨11, _⟩ => ⟨S1024x64, .f32⟩
  | .hbm, ⟨12, _⟩ => ⟨S1024x100000, .f32⟩
  | .hbm, ⟨13, _⟩ => ⟨S100000x64, .f32⟩
  | .hbm, ⟨14, _⟩ => ⟨S1024x64, .f32⟩
  | .hbm, ⟨15, _⟩ => ⟨S1024x64, .f32⟩
  | .hbm, ⟨16, _⟩ => ⟨S_, .f32⟩
  | .hbm, ⟨17, _⟩ => ⟨S1024x64, .f32⟩
  | .hbm, ⟨18, _⟩ => ⟨S1024x64, .f32⟩
  | .hbm, ⟨19, _⟩ => ⟨S64x64, .f32⟩
  | .hbm, ⟨20, _⟩ => ⟨S1024x64, .f32⟩
  | .hbm, ⟨21, _⟩ => ⟨S1x64, .f32⟩
  | .hbm, ⟨22, _⟩ => ⟨S1024x64, .f32⟩
  | .hbm, ⟨23, _⟩ => ⟨S1024x64, .f32⟩
  | .hbm, ⟨24, _⟩ => ⟨S_, .f32⟩
  | .hbm, ⟨25, _⟩ => ⟨S1024x64, .f32⟩
  | .hbm, ⟨26, _⟩ => ⟨S1024x64, .f32⟩
  | .hbm, ⟨27, _⟩ => ⟨S64x32, .f32⟩
  | .hbm, ⟨28, _⟩ => ⟨S1024x32, .f32⟩
  | .hbm, ⟨29, _⟩ => ⟨S1x32, .f32⟩
  | .hbm, ⟨30, _⟩ => ⟨S1024x32, .f32⟩
  | .hbm, ⟨31, _⟩ => ⟨S1024x32, .f32⟩
  | .hbm, ⟨32, _⟩ => ⟨S_, .f32⟩
  | .hbm, ⟨33, _⟩ => ⟨S1024x32, .f32⟩
  | .hbm, ⟨34, _⟩ => ⟨S1024x32, .f32⟩
  | .hbm, ⟨35, _⟩ => ⟨S32x1, .f32⟩
  | .hbm, ⟨36, _⟩ => ⟨S1024x1, .f32⟩
  | .hbm, ⟨37, _⟩ => ⟨S100000x1, .f32⟩
  | .hbm, ⟨38, _⟩ => ⟨S1024x1, .f32⟩
  | .hbm, ⟨39, _⟩ => ⟨S1x1, .f32⟩
  | .hbm, ⟨40, _⟩ => ⟨S1024x1, .f32⟩
  | .hbm, ⟨41, _⟩ => ⟨S1024x1, .f32⟩
  | .hbm, ⟨42, _⟩ => ⟨S1024x1, .f32⟩
  | .hbm, ⟨43, _⟩ => ⟨S1024, .f32⟩
  | _, _ => ⟨S1024x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_cst : Ref sig .tc := ⟨.hbm, 24, rfl⟩
abbrev main_call0_v0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call1_cst : Ref sig .tc := ⟨.hbm, 32, rfl⟩
abbrev main_call1_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩

abbrev nD : Nat := 1
abbrev τ : Topo := Topo.v7x

variable {F : FTy → Type} [FloatOps F]
-- ==== Proof.Setup.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Ring.AtN
public import Idealize.ShloMosaic.Lib.Tactic
public import Idealize.ShloMosaic.Lib.WordCmp
public import Idealize.ShloMosaic.Lib.VecWindow

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The four kinds of points: the first, those that start a block, those that start none, the last -/

/-- The condition of the body's first branch: the accumulators are zeroed and the first eight blocks started. -/
abbrev isFirst (i : grid0.Coords) : Prop := (Scalar.cmpi .ne (Scalar.extui (Scalar.cmpi .eq (BitVec.ofNat 32 (i 0).val) 0#32)) 0#32) = 1#1
/-- The condition of the second branch: a block eight ahead exists and is started. -/
abbrev isAhead (i : grid0.Coords) : Prop := k0_cond2 i = 1#1
/-- The condition of the third branch: the two tails and the epilogue run. -/
abbrev isLast (i : grid0.Coords) : Prop := k0_cond3 i = 1#1

theorem isFirst_iff : ∀ t : Fin cfg0.N, isFirst (grid0.coords t) ↔ t.val = 0 :=
  (by decide +kernel : ∀ t : Fin grid0.N, isFirst (grid0.coords t) ↔ t.val = 0)
theorem isAhead_iff : ∀ t : Fin cfg0.N, isAhead (grid0.coords t) ↔ t.val < 89 :=
  (by decide +kernel : ∀ t : Fin grid0.N, isAhead (grid0.coords t) ↔ t.val < 89)
theorem isLast_iff : ∀ t : Fin cfg0.N, isLast (grid0.coords t) ↔ t.val = 96 :=
  (by decide +kernel : ∀ t : Fin grid0.N, isLast (grid0.coords t) ↔ t.val = 96)
/-- The output window is idle, and not written back, at every point but the last. -/
theorem idle_before_last : ∀ t : Fin cfg0.N, t.val ≠ 96 → cfg0.idle 6 (grid0.coords t) = true := by decide +kernel
theorem noFlush_before_last : ∀ t : Fin cfg0.N, t.val ≠ 96 → (cfg0.win 6).flush t = false := by decide +kernel
theorem live_last : ∀ t : Fin cfg0.N, t.val = 96 → cfg0.idle 6 (grid0.coords t) = false := by decide +kernel

/-! ## The buffers by name -/

abbrev ringX : Memref sig .tc .vmem S8x1024x1024 .f32 := Memref.whole cc0_scratch0
abbrev ringE : Memref sig .tc .vmem S8x1024x64 .f32 := Memref.whole cc0_scratch1
abbrev ringL : Memref sig .tc .vmem S8x1024x2 .bf16 := Memref.whole cc0_scratch2
abbrev tailX1 : Memref sig .tc .vmem S1024x640 .f32 := Memref.whole cc0_scratch3
abbrev tailE1 : Memref sig .tc .vmem S640x64 .f32 := Memref.whole cc0_scratch4
abbrev tailL1 : Memref sig .tc .vmem S640x2 .bf16 := Memref.whole cc0_scratch5
abbrev tailX2 : Memref sig .tc .vmem S1024x32 .f32 := Memref.whole cc0_scratch6
abbrev tailE2 : Memref sig .tc .vmem S32x64 .f32 := Memref.whole cc0_scratch7
abbrev tailL2 : Memref sig .tc .vmem S32x2 .bf16 := Memref.whole cc0_scratch8
abbrev accM : Memref sig .tc .vmem S1024x128 .f32 := Memref.whole cc0_scratch9
abbrev sqM : Memref sig .tc .vmem S1024x64 .f32 := Memref.whole cc0_scratch10
abbrev hbmX : Memref sig .tc .hbm S1024x100000 .f32 := Memref.whole main_arg0
abbrev hbmE : Memref sig .tc .hbm S100000x64 .f32 := Memref.whole main_arg2
abbrev hbmL : Memref sig .tc .hbm S100000x2 .bf16 := Memref.whole main_v7

/-- Memref `M`'s buffer on core `c`: the type of its contents. -/
abbrev Cont (c : Dev nD) {sp : Space} {S : Shape} {e : EltTy} (M : Memref sig .tc sp S e) : Type := Buf (Elt F) (M.view.loc (c : Thread nD τ))

/-! ## The rings' slots, blocks and cells -/

instance : NeZero grid0.N := ⟨by rw [N_0]; decide⟩
theorem inb_slotX (s : Fin 8) : ∀ a, (![s.val, 0, 0] : Fin 3 → Nat) a + S1x1024x1024.size a ≤ S8x1024x1024.size a := by
  have := s.isLt; intro a; fin_cases a <;> simp <;> omega
theorem inb_slotE (s : Fin 8) : ∀ a, (![s.val, 0, 0] : Fin 3 → Nat) a + S1x1024x64.size a ≤ S8x1024x64.size a := by
  have := s.isLt; intro a; fin_cases a <;> simp <;> omega
theorem inb_slotL (s : Fin 8) : ∀ a, (![s.val, 0, 0] : Fin 3 → Nat) a + S1x1024x2.size a ≤ S8x1024x2.size a := by
  have := s.isLt; intro a; fin_cases a <;> simp <;> omega
theorem inb_cell (s : Fin 8) : ∀ a, (![s.val] : Fin 1 → Nat) a + S1.size a ≤ S8.size a := by
  have := s.isLt; intro a; fin_cases a <;> simp <;> omega
theorem inb_srcX (b : Fin 97) : ∀ a, (![0, 1024 * b.val] : Fin 2 → Nat) a + S1024x1024.size a ≤ S1024x100000.size a := by
  have := b.isLt; intro a; fin_cases a <;> simp <;> omega
theorem inb_srcE (b : Fin 97) : ∀ a, (![1024 * b.val, 0] : Fin 2 → Nat) a + S1024x64.size a ≤ S100000x64.size a := by
  have := b.isLt; intro a; fin_cases a <;> simp <;> omega
theorem inb_srcL (b : Fin 97) : ∀ a, (![1024 * b.val, 0] : Fin 2 → Nat) a + S1024x2.size a ≤ S100000x2.size a := by
  have := b.isLt; intro a; fin_cases a <;> simp <;> omega

/-- Slot `s` of each ring buffer, as the transfers name their destination. -/
def slotX (s : Fin 8) : Memref sig .tc .vmem S1024x1024 .f32 :=
  (ringX.slice (Rect.unit (s := S8x1024x1024) ![s.val, 0, 0] S1x1024x1024.size (inb_slotX s)) (fun _ => rfl)).squeeze S1024x1024 squeezes_S1x1024x1024_S1024x1024
def slotE (s : Fin 8) : Memref sig .tc .vmem S1024x64 .f32 :=
  (ringE.slice (Rect.unit (s := S8x1024x64) ![s.val, 0, 0] S1x1024x64.size (inb_slotE s)) (fun _ => rfl)).squeeze S1024x64 squeezes_S1x1024x64_S1024x64
def slotL (s : Fin 8) : Memref sig .tc .vmem S1024x2 .bf16 :=
  (ringL.slice (Rect.unit (s := S8x1024x2) ![s.val, 0, 0] S1x1024x2.size (inb_slotL s)) (fun _ => rfl)).squeeze S1024x2 squeezes_S1x1024x2_S1024x2
/-- Block `b` of each operand, as the transfers name their source: 1024 columns of the values, 1024 rows of the
    embeddings and of the split linear weights. -/
def srcX (b : Fin 97) : Memref sig .tc .hbm S1024x1024 .f32 :=
  hbmX.slice (Rect.unit (s := S1024x100000) ![0, 1024 * b.val] S1024x1024.size (inb_srcX b)) (fun _ => rfl)
def srcE (b : Fin 97) : Memref sig .tc .hbm S1024x64 .f32 :=
  hbmE.slice (Rect.unit (s := S100000x64) ![1024 * b.val, 0] S1024x64.size (inb_srcE b)) (fun _ => rfl)
def srcL (b : Fin 97) : Memref sig .tc .hbm S1024x2 .bf16 :=
  hbmL.slice (Rect.unit (s := S100000x2) ![1024 * b.val, 0] S1024x2.size (inb_srcL b)) (fun _ => rfl)
/-- Cell `s` of a ring's eight semaphores. -/
def cellOf8 (A : DmaSems sig S8) (s : Fin 8) : DmaSems sig S_ := (A.slice (Rect.unit (s := S8) ![s.val] S1.size (inb_cell s))).squeeze S_ squeezes_S1_S_
abbrev semX (s : Fin 8) : SemLoc sig := SemLoc.dma (cellOf8 cc0_scratch11 s).sem
abbrev semE (s : Fin 8) : SemLoc sig := SemLoc.dma (cellOf8 cc0_scratch12 s).sem
abbrev semL (s : Fin 8) : SemLoc sig := SemLoc.dma (cellOf8 cc0_scratch13 s).sem
/-- The tails' blocks: 640 entries from 99328, the last 32 from 99968. -/
abbrev srcX1 : Memref sig .tc .hbm S1024x640 .f32 := hbmX.slice (Rect.unit (s := S1024x100000) ![0, 99328] S1024x640.size inb_S1024x100000_S1024x640_0_99328) (fun _ => rfl)
abbrev srcE1 : Memref sig .tc .hbm S640x64 .f32 := hbmE.slice (Rect.unit (s := S100000x64) ![99328, 0] S640x64.size inb_S100000x64_S640x64_99328_0) (fun _ => rfl)
abbrev srcL1 : Memref sig .tc .hbm S640x2 .bf16 := hbmL.slice (Rect.unit (s := S100000x2) ![99328, 0] S640x2.size inb_S100000x2_S640x2_99328_0) (fun _ => rfl)
abbrev srcX2 : Memref sig .tc .hbm S1024x32 .f32 := hbmX.slice (Rect.unit (s := S1024x100000) ![0, 99968] S1024x32.size inb_S1024x100000_S1024x32_0_99968) (fun _ => rfl)
abbrev srcE2 : Memref sig .tc .hbm S32x64 .f32 := hbmE.slice (Rect.unit (s := S100000x64) ![99968, 0] S32x64.size inb_S100000x64_S32x64_99968_0) (fun _ => rfl)
abbrev srcL2 : Memref sig .tc .hbm S32x2 .bf16 := hbmL.slice (Rect.unit (s := S100000x2) ![99968, 0] S32x2.size inb_S100000x2_S32x2_99968_0) (fun _ => rfl)
/-- The tails' six semaphores. -/
abbrev semT0 : SemLoc sig := SemLoc.dma ((cc0_scratch14.slice (Rect.unit (s := S6) ![0] S1.size inb_S6_S1_0)).squeeze S_ squeezes_S1_S_).sem
abbrev semT1 : SemLoc sig := SemLoc.dma ((cc0_scratch14.slice (Rect.unit (s := S6) ![1] S1.size inb_S6_S1_1)).squeeze S_ squeezes_S1_S_).sem
abbrev semT2 : SemLoc sig := SemLoc.dma ((cc0_scratch14.slice (Rect.unit (s := S6) ![2] S1.size inb_S6_S1_2)).squeeze S_ squeezes_S1_S_).sem
abbrev semT3 : SemLoc sig := SemLoc.dma ((cc0_scratch14.slice (Rect.unit (s := S6) ![3] S1.size inb_S6_S1_3)).squeeze S_ squeezes_S1_S_).sem
abbrev semT4 : SemLoc sig := SemLoc.dma ((cc0_scratch14.slice (Rect.unit (s := S6) ![4] S1.size inb_S6_S1_4)).squeeze S_ squeezes_S1_S_).sem
abbrev semT5 : SemLoc sig := SemLoc.dma ((cc0_scratch14.slice (Rect.unit (s := S6) ![5] S1.size inb_S6_S1_5)).squeeze S_ squeezes_S1_S_).sem

/-! ## Shares: each operand is lent ten times, once per slot and once per tail -/

/-- The full share halved `n` times down its right spine. -/
def spine : ℕ → PosShare TreeShare
  | 0 => fullShare
  | n + 1 => (spine n).right
/-- The share lent to slot `s`. -/
abbrev lent (s : Fin 8) : PosShare TreeShare := (spine s.val).left
abbrev lentT1 : PosShare TreeShare := (spine 8).left
abbrev lentT2 : PosShare TreeShare := spine 9

/-! ## The pieces a transfer holds -/

section Pieces
variable (c : Dev nD) {S : Shape} {e : EltTy}

/-- A destination held in full at `f`. -/
abbrev dstP (M : Memref sig .tc .vmem S e) (f : Cont (F := F) c M) : sProp 𝕄 := M.view.loc (c : Thread nD τ) ↦[M.view.set]{fullShare} f
/-- A source's elements held at share `q`. -/
abbrev srcP (M : Memref sig .tc .hbm S e) (q : PosShare TreeShare) (W : Cont (F := F) c M) : sProp 𝕄 := M.view.loc (c : Thread nD τ) ↦[M.view.set]{q} W
/-- An operand's buffer held whole at share `q`. -/
abbrev wholeP (M : Memref sig .tc .hbm S e) (q : PosShare TreeShare) (W : Cont (F := F) c M) : sProp 𝕄 := M.view.loc (c : Thread nD τ) ↦[Finset.univ]{q} W
/-- What of the operand's copy a source leaves out. -/
def restP (M : Memref sig .tc .hbm S e) (q : PosShare TreeShare) (W : Cont (F := F) c M) : sProp 𝕄 := M.view.loc (c : Thread nD τ) ↦[Finset.univ \ M.view.set]{q} W
/-- The destination's contents once the source landed in it. -/
abbrev landed (D : Memref sig .tc .vmem S e) (M : Memref sig .tc .hbm S e) (W : Cont (F := F) c M) (f : Cont (F := F) c D) : Cont (F := F) c D :=
  D.view.writes (Elt F) f [⟨Rect.whole S, ReadAs.same.apply (M.view.read (Elt F) W)⟩]
/-- A transfer in flight: it will give back the destination landed and the source's elements. -/
abbrev flightP (D : Memref sig .tc .vmem S e) (k : SemLoc sig) (M : Memref sig .tc .hbm S e) (q : PosShare TreeShare) (W : Cont (F := F) c M) (f : Cont (F := F) c D) : sProp 𝕄 :=
  Transfers.Flight countersEmb (c : Thread nD τ) k default (D.view.amount k) iprop(dstP c D (landed c D M W f) ∗ srcP c M q W)
/-- A cell at zero. -/
abbrev zeroP (k : SemLoc sig) : sProp 𝕄 := semVal ((c : Thread nD τ), k) 0

/-- A copy of the operand is a source's elements and the rest. -/
theorem src_split (M : Memref sig .tc .hbm S e) (q : PosShare TreeShare) (W : Cont (F := F) c M) :
    wholeP c M q W ⊣⊢ iprop(srcP c M q W ∗ restP c M q W) := by
  unfold restP; exact pointsTo_split_subset (Finset.subset_univ _)
/-- A holding at a share is one at each of its halves. -/
theorem halve (M : Memref sig .tc .hbm S e) (W : Cont (F := F) c M) (q : PosShare TreeShare) :
    wholeP c M q W ⊣⊢ iprop(wholeP c M q.left W ∗ wholeP c M q.right W) :=
  pointsTo_share (PosShare.mem_left_op_right q)
/-- The whole operand is its first `n` lent copies and what remains. -/
theorem spine_range (M : Memref sig .tc .hbm S e) (W : Cont (F := F) c M) (n : ℕ) :
    wholeP c M fullShare W ⊣⊢ iprop(bigSep (Finset.range n) (fun s => wholeP c M (spine s).left W) ∗ wholeP c M (spine n) W) := by
  induction n with
  | zero =>
    rw [Finset.range_zero, bigSep_empty]
    exact emp_sep.symm
  | succ n ih =>
    rw [Finset.range_add_one, bigSep_insert (Finset.notMem_range_self)]
    show wholeP c M fullShare W ⊣⊢ iprop((wholeP c M (spine n).left W ∗ bigSep (Finset.range n) (fun s => wholeP c M (spine s).left W)) ∗ wholeP c M (spine n).right W)
    refine ih.trans ⟨?_, ?_⟩
    · iintro ⟨Hs, Hw⟩
      ihave Hw := (halve c M W (spine n)).1 $$ Hw
      icases Hw with ⟨Hl, Hr⟩
      isplitl [Hl Hs]
      · isplitl [Hl]
        · iexact Hl
        · iexact Hs
      · iexact Hr
    · iintro ⟨⟨Hl, Hs⟩, Hr⟩
      isplitl [Hs]
      · iexact Hs
      iapply (halve c M W (spine n)).2
      isplitl [Hl]
      · iexact Hl
      · iexact Hr
end Pieces
/-! ## The body's names at point `t` are the rings' slots, blocks and cells -/

section Names
omit [FloatOps F]

theorem off1_at : ∀ t : Fin grid0.N, k0_off1 (grid0.coords t) = ![(Ring.sl 8 t.val).val] := by decide +kernel
theorem off2_at : ∀ t : Fin grid0.N, k0_off2 (grid0.coords t) = ![(Ring.sl 8 t.val).val, 0, 0] := by decide +kernel
theorem off4_at : ∀ t : Fin grid0.N, k0_off4 (grid0.coords t) = ![(Ring.sl 8 t.val).val, 0, 0] := by decide +kernel
theorem off6_at : ∀ t : Fin grid0.N, k0_off6 (grid0.coords t) = ![(Ring.sl 8 t.val).val, 0, 0] := by decide +kernel
theorem off8_at : ∀ t : Fin grid0.N, k0_off8 (grid0.coords t) = ![(Ring.sl 8 t.val).val, 0, 0] := by decide +kernel
theorem off9_at : ∀ t : Fin grid0.N, k0_off9 (grid0.coords t) = ![(Ring.sl 8 t.val).val, 0, 0] := by decide +kernel
theorem off10_at : ∀ t : Fin grid0.N, k0_off10 (grid0.coords t) = ![(Ring.sl 8 t.val).val, 0, 0] := by decide +kernel
theorem off11_at : ∀ t : Fin grid0.N, k0_off11 (grid0.coords t) = ![(Ring.sl 8 t.val).val] := by decide +kernel
theorem off12_at : ∀ t : Fin grid0.N, k0_off12 (grid0.coords t) = ![(Ring.sl 8 t.val).val, 0, 0] := by decide +kernel
theorem off14_at : ∀ t : Fin grid0.N, k0_off14 (grid0.coords t) = ![(Ring.sl 8 t.val).val, 0, 0] := by decide +kernel
theorem off16_at : ∀ t : Fin grid0.N, k0_off16 (grid0.coords t) = ![(Ring.sl 8 t.val).val, 0, 0] := by decide +kernel
theorem off13_at : ∀ t : Fin grid0.N, isAhead (grid0.coords t) → k0_off13 (grid0.coords t) = ![0, 1024 * (Ring.bk 97 (t.val + 8)).val] := by decide +kernel
theorem off15_at : ∀ t : Fin grid0.N, isAhead (grid0.coords t) → k0_off15 (grid0.coords t) = ![1024 * (Ring.bk 97 (t.val + 8)).val, 0] := by decide +kernel
theorem off17_at : ∀ t : Fin grid0.N, isAhead (grid0.coords t) → k0_off17 (grid0.coords t) = ![1024 * (Ring.bk 97 (t.val + 8)).val, 0] := by decide +kernel

/-- A slot, a block or a cell named by any offsets that are its own is that slot, block or cell. -/
theorem slotX_of {o : Fin 3 → Nat} (s : Fin 8) (h : o = ![s.val, 0, 0]) (p) :
    (ringX.slice (Rect.unit (s := S8x1024x1024) o S1x1024x1024.size p) (fun _ => rfl)).squeeze S1024x1024 squeezes_S1x1024x1024_S1024x1024 = slotX s := by
  subst h; exact id rfl
theorem slotE_of {o : Fin 3 → Nat} (s : Fin 8) (h : o = ![s.val, 0, 0]) (p) :
    (ringE.slice (Rect.unit (s := S8x1024x64) o S1x1024x64.size p) (fun _ => rfl)).squeeze S1024x64 squeezes_S1x1024x64_S1024x64 = slotE s := by
  subst h; exact id rfl
theorem slotL_of {o : Fin 3 → Nat} (s : Fin 8) (h : o = ![s.val, 0, 0]) (p) :
    (ringL.slice (Rect.unit (s := S8x1024x2) o S1x1024x2.size p) (fun _ => rfl)).squeeze S1024x2 squeezes_S1x1024x2_S1024x2 = slotL s := by
  subst h; exact id rfl
theorem srcX_of {o : Fin 2 → Nat} (b : Fin 97) (h : o = ![0, 1024 * b.val]) (p) :
    hbmX.slice (Rect.unit (s := S1024x100000) o S1024x1024.size p) (fun _ => rfl) = srcX b := by
  subst h; exact id rfl
theorem srcE_of {o : Fin 2 → Nat} (b : Fin 97) (h : o = ![1024 * b.val, 0]) (p) :
    hbmE.slice (Rect.unit (s := S100000x64) o S1024x64.size p) (fun _ => rfl) = srcE b := by
  subst h; exact id rfl
theorem srcL_of {o : Fin 2 → Nat} (b : Fin 97) (h : o = ![1024 * b.val, 0]) (p) :
    hbmL.slice (Rect.unit (s := S100000x2) o S1024x2.size p) (fun _ => rfl) = srcL b := by
  subst h; exact id rfl
theorem cell_of (A : DmaSems sig S8) {o : Fin 1 → Nat} (s : Fin 8) (h : o = ![s.val]) (p) :
    (A.slice (Rect.unit (s := S8) o S1.size p)).squeeze S_ squeezes_S1_S_ = cellOf8 A s := by
  subst h; exact id rfl

@[sl_canon] theorem waitCell (A : DmaSems sig S8) (t : Fin grid0.N) (p) :
    (A.slice (Rect.unit (s := S8) (k0_off1 (grid0.coords t)) S1.size p)).squeeze S_ squeezes_S1_S_ = cellOf8 A (Ring.sl 8 t.val) := cell_of A _ (off1_at t) p
@[sl_canon] theorem waitX (t : Fin grid0.N) (p) :
    (ringX.slice (Rect.unit (s := S8x1024x1024) (k0_off2 (grid0.coords t)) S1x1024x1024.size p) (fun _ => rfl)).squeeze S1024x1024 squeezes_S1x1024x1024_S1024x1024 = slotX (Ring.sl 8 t.val) := slotX_of _ (off2_at t) p
@[sl_canon] theorem waitE (t : Fin grid0.N) (p) :
    (ringE.slice (Rect.unit (s := S8x1024x64) (k0_off4 (grid0.coords t)) S1x1024x64.size p) (fun _ => rfl)).squeeze S1024x64 squeezes_S1x1024x64_S1024x64 = slotE (Ring.sl 8 t.val) := slotE_of _ (off4_at t) p
@[sl_canon] theorem waitL (t : Fin grid0.N) (p) :
    (ringL.slice (Rect.unit (s := S8x1024x2) (k0_off6 (grid0.coords t)) S1x1024x2.size p) (fun _ => rfl)).squeeze S1024x2 squeezes_S1x1024x2_S1024x2 = slotL (Ring.sl 8 t.val) := slotL_of _ (off6_at t) p
@[sl_canon] theorem startCell (A : DmaSems sig S8) (t : Fin grid0.N) (h : isAhead (grid0.coords t)) :
    (A.slice (Rect.unit (s := S8) (k0_off11 (grid0.coords t)) S1.size (k0_off11_inb (grid0.coords t) h))).squeeze S_ squeezes_S1_S_ = cellOf8 A (Ring.sl 8 t.val) := cell_of A _ (off11_at t) _
@[sl_canon] theorem startX (t : Fin grid0.N) (h : isAhead (grid0.coords t)) :
    (ringX.slice (Rect.unit (s := S8x1024x1024) (k0_off12 (grid0.coords t)) S1x1024x1024.size (k0_off12_inb (grid0.coords t) h)) (fun _ => rfl)).squeeze S1024x1024 squeezes_S1x1024x1024_S1024x1024 = slotX (Ring.sl 8 t.val) := slotX_of _ (off12_at t) _
@[sl_canon] theorem startE (t : Fin grid0.N) (h : isAhead (grid0.coords t)) :
    (ringE.slice (Rect.unit (s := S8x1024x64) (k0_off14 (grid0.coords t)) S1x1024x64.size (k0_off14_inb (grid0.coords t) h)) (fun _ => rfl)).squeeze S1024x64 squeezes_S1x1024x64_S1024x64 = slotE (Ring.sl 8 t.val) := slotE_of _ (off14_at t) _
@[sl_canon] theorem startL (t : Fin grid0.N) (h : isAhead (grid0.coords t)) :
    (ringL.slice (Rect.unit (s := S8x1024x2) (k0_off16 (grid0.coords t)) S1x1024x2.size (k0_off16_inb (grid0.coords t) h)) (fun _ => rfl)).squeeze S1024x2 squeezes_S1x1024x2_S1024x2 = slotL (Ring.sl 8 t.val) := slotL_of _ (off16_at t) _
@[sl_canon] theorem nextX (t : Fin grid0.N) (h : isAhead (grid0.coords t)) :
    hbmX.slice (Rect.unit (s := S1024x100000) (k0_off13 (grid0.coords t)) S1024x1024.size (k0_off13_inb (grid0.coords t) h)) (fun _ => rfl) = srcX (Ring.bk 97 (t.val + 8)) := srcX_of _ (off13_at t h) _
@[sl_canon] theorem nextE (t : Fin grid0.N) (h : isAhead (grid0.coords t)) :
    hbmE.slice (Rect.unit (s := S100000x64) (k0_off15 (grid0.coords t)) S1024x64.size (k0_off15_inb (grid0.coords t) h)) (fun _ => rfl) = srcE (Ring.bk 97 (t.val + 8)) := srcE_of _ (off15_at t h) _
@[sl_canon] theorem nextL (t : Fin grid0.N) (h : isAhead (grid0.coords t)) :
    hbmL.slice (Rect.unit (s := S100000x2) (k0_off17 (grid0.coords t)) S1024x2.size (k0_off17_inb (grid0.coords t) h)) (fun _ => rfl) = srcL (Ring.bk 97 (t.val + 8)) := srcL_of _ (off17_at t h) _
/-- The loads' boxes lie in the slot waited. -/
instance (priority := high) loadX (t : Fin grid0.N) : ClosedOff (k0_off8 (grid0.coords t)) := ⟨![(Ring.sl 8 t.val).val, 0, 0], off8_at t⟩
instance (priority := high) loadE (t : Fin grid0.N) : ClosedOff (k0_off9 (grid0.coords t)) := ⟨![(Ring.sl 8 t.val).val, 0, 0], off9_at t⟩
instance (priority := high) loadL (t : Fin grid0.N) : ClosedOff (k0_off10 (grid0.coords t)) := ⟨![(Ring.sl 8 t.val).val, 0, 0], off10_at t⟩
end Names

/-! ## A ring's slot, free or in flight -/

section Slots
variable (c : Dev nD) {S : Shape} {e : EltTy}
/-- A destination about to be filled from `M`: its cell at zero, its buffer at anything, the source apart from the rest of its operand's copy. -/
abbrev readyP (D : Memref sig .tc .vmem S e) (k : SemLoc sig) (M : Memref sig .tc .hbm S e) (q : PosShare TreeShare) (W : Cont (F := F) c M) : sProp 𝕄 :=
  iprop(zeroP c k ∗ (∃ f, dstP (F := F) c D f) ∗ srcP c M q W ∗ restP c M q W)
/-- A destination being filled from `M`. -/
abbrev flyP (D : Memref sig .tc .vmem S e) (k : SemLoc sig) (M : Memref sig .tc .hbm S e) (q : PosShare TreeShare) (W : Cont (F := F) c M) : sProp 𝕄 :=
  iprop(∃ f, flightP c D k M q W f ∗ restP c M q W)
/-- A destination free: its cell at zero, its buffer at anything, its copy of the operand whole. -/
abbrev freeP (D : Memref sig .tc .vmem S e) (k : SemLoc sig) (M : Memref sig .tc .hbm S e) (q : PosShare TreeShare) (W : Cont (F := F) c M) : sProp 𝕄 :=
  iprop(zeroP c k ∗ ∃ f, dstP c D f ∗ wholeP c M q W)
theorem ready_of_free (D : Memref sig .tc .vmem S e) (k : SemLoc sig) (M : Memref sig .tc .hbm S e) (q : PosShare TreeShare) (W : Cont (F := F) c M) :
    freeP c D k M q W ⊢ readyP c D k M q W := by
  iintro ⟨Hz, %f, Hd, Hw⟩
  ihave Hs := (src_split c M q W).1 $$ Hw
  icases Hs with ⟨Hs, Hr⟩
  isplitl [Hz]; · iexact Hz
  isplitl [Hd]; · iexists f; iexact Hd
  isplitl [Hs]; · iexact Hs
  iexact Hr
/-- What a wait hands back, with the rest of the operand's copy, is the destination free. -/
theorem free_of_landed (D : Memref sig .tc .vmem S e) (k : SemLoc sig) (M : Memref sig .tc .hbm S e) (q : PosShare TreeShare) (W : Cont (F := F) c M) (f : Cont (F := F) c D) :
    iprop(zeroP c k ∗ dstP c D f ∗ srcP c M q W ∗ restP c M q W) ⊢ freeP c D k M q W := by
  iintro ⟨Hz, Hd, Hs, Hr⟩
  isplitl [Hz]; · iexact Hz
  iexists f; isplitl [Hd]; · iexact Hd
  iapply (src_split c M q W).2
  isplitl [Hs]; · iexact Hs
  iexact Hr
end Slots

section Families
variable (c : Dev nD) (X : Cont (F := F) c hbmX) (E : Cont (F := F) c hbmE) (L : Cont (F := F) c hbmL)
/-- Slot `s` free: its cell at zero, the slot at anything, its copy of the operand whole. -/
abbrev freeX (s : Fin 8) : sProp 𝕄 := iprop(zeroP c (semX s) ∗ ∃ f, dstP c (slotX s) f ∗ wholeP c hbmX (lent s) X)
abbrev freeE (s : Fin 8) : sProp 𝕄 := iprop(zeroP c (semE s) ∗ ∃ f, dstP c (slotE s) f ∗ wholeP c hbmE (lent s) E)
abbrev freeL (s : Fin 8) : sProp 𝕄 := iprop(zeroP c (semL s) ∗ ∃ f, dstP c (slotL s) f ∗ wholeP c hbmL (lent s) L)
/-- Slot `s` in flight with block `b`: the transfer, and the rest of the slot's copy of the operand. -/
abbrev flyX (s : Fin 8) (b : Fin 97) : sProp 𝕄 := iprop(∃ f, flightP c (slotX s) (semX s) (srcX b) (lent s) X f ∗ restP c (srcX b) (lent s) X)
abbrev flyE (s : Fin 8) (b : Fin 97) : sProp 𝕄 := iprop(∃ f, flightP c (slotE s) (semE s) (srcE b) (lent s) E f ∗ restP c (srcE b) (lent s) E)
abbrev flyL (s : Fin 8) (b : Fin 97) : sProp 𝕄 := iprop(∃ f, flightP c (slotL s) (semL s) (srcL b) (lent s) L f ∗ restP c (srcL b) (lent s) L)
theorem forget {S : Shape} {e : EltTy} (D : Memref sig .tc .vmem S e) (f : Cont (F := F) c D) : dstP c D f ⊢ iprop(∃ f, dstP (F := F) c D f) := by
  iintro H; iexists f; iexact H
theorem splitX (s : Fin 8) (b : Fin 97) : wholeP c hbmX (lent s) X ⊣⊢ iprop(srcP c (srcX b) (lent s) X ∗ restP c (srcX b) (lent s) X) := src_split c (srcX b) (lent s) X
theorem splitE (s : Fin 8) (b : Fin 97) : wholeP c hbmE (lent s) E ⊣⊢ iprop(srcP c (srcE b) (lent s) E ∗ restP c (srcE b) (lent s) E) := src_split c (srcE b) (lent s) E
theorem splitL (s : Fin 8) (b : Fin 97) : wholeP c hbmL (lent s) L ⊣⊢ iprop(srcP c (srcL b) (lent s) L ∗ restP c (srcL b) (lent s) L) := src_split c (srcL b) (lent s) L
end Families
/-! ## What one block adds to the accumulators -/

/-- The accumulator after a block: the block of `x` times the block of the table, widened by what the table's
    narrowing leaves out and by the linear weights, added. -/
noncomputable def accBlock (x : Vec F S1024x1024 .f32) (e : Vec F S1024x64 .f32) (l : Vec F S1024x2 .bf16) (a : Vec F S1024x128 .f32) : Vec F S1024x128 .f32 :=
  k0_pay1 l (truncf .bf16 x bitsLt_bf16_f32) (truncf .bf16 e bitsLt_bf16_f32) (truncf .bf16 (subf e (extf .f32 (truncf .bf16 e bitsLt_bf16_f32) bitsLt_bf16_f32)) bitsLt_bf16_f32) a
/-- The accumulator of squares after a block. -/
noncomputable def sqBlock (x : Vec F S1024x1024 .f32) (e : Vec F S1024x64 .f32) (q : Vec F S1024x64 .f32) : Vec F S1024x64 .f32 :=
  k0_pay2 (mulf (truncf .bf16 x bitsLt_bf16_f32) (truncf .bf16 x bitsLt_bf16_f32)) (mulf e e) q
/-- The same for the first tail, -/
noncomputable def accTail1 (x : Vec F S1024x640 .f32) (e : Vec F S640x64 .f32) (l : Vec F S640x2 .bf16) (a : Vec F S1024x128 .f32) : Vec F S1024x128 .f32 :=
  k0_pay11 l (k0_pay6 x) (k0_pay8 e) (k0_pay10 e) a
noncomputable def sqTail1 (x : Vec F S1024x640 .f32) (e : Vec F S640x64 .f32) (q : Vec F S1024x64 .f32) : Vec F S1024x64 .f32 :=
  k0_pay12 (k0_pay7 x) (k0_pay9 e) q
/-- and for the second. -/
noncomputable def accTail2 (x : Vec F S1024x32 .f32) (e : Vec F S32x64 .f32) (l : Vec F S32x2 .bf16) (a : Vec F S1024x128 .f32) : Vec F S1024x128 .f32 :=
  k0_pay16 x e l a
noncomputable def sqTail2 (x : Vec F S1024x32 .f32) (e : Vec F S32x64 .f32) (q : Vec F S1024x64 .f32) : Vec F S1024x64 .f32 :=
  k0_pay17 (k0_pay14 x) (k0_pay15 e) q (constant S1024x64 .f32 0x00000000#32)
/-- The output from the finished accumulators and the layers' parameters. -/
noncomputable def finish (a : Vec F S1024x128 .f32) (q : Vec F S1024x64 .f32) (w1 : Vec F S64x64 .f32) (b1 : Vec F S64 .f32) (w2 : Vec F S32x64 .f32) (b2 : Vec F S32 .f32) (w3 : Vec F S1x32 .f32) (b3 : Vec F S1 .f32) : Vec F S1024 .f32 :=
  k0_pay3 (k0_pay18 a) (k0_pay19 a q w1 b1 w2 b2) w3 b3

section Reads
variable (c : Dev nD)
/-- An operand's elements at a source. -/
abbrev seen {S : Shape} {e : EltTy} (M : Memref sig .tc .hbm S e) (W : Cont (F := F) c M) : Vec F S e := M.view.read (Elt F) W

/-- What the body loads from a slot that block `w` landed in is `w`, once cast to the block's shape. -/
theorem loadedX (s : Fin 8) {o : Fin 3 → Nat} (h : o = ![s.val, 0, 0]) (p) (f : Cont (F := F) c (slotX s)) (w : Vec F S1024x1024 .f32) :
    shapeCast S1024x1024 (ringX.view.readAt (Elt F) (Rect.unit (s := S8x1024x1024) o S1x1024x1024.size p).toLoadRect ((slotX s).view.writes (Elt F) f [⟨Rect.whole S1024x1024, w⟩])) shapeCasts_S1x1024x1024_S1024x1024 = w := by
  subst h; exact View.read_writes_whole (slotX s).view f w
theorem loadedE (s : Fin 8) {o : Fin 3 → Nat} (h : o = ![s.val, 0, 0]) (p) (f : Cont (F := F) c (slotE s)) (w : Vec F S1024x64 .f32) :
    shapeCast S1024x64 (ringE.view.readAt (Elt F) (Rect.unit (s := S8x1024x64) o S1x1024x64.size p).toLoadRect ((slotE s).view.writes (Elt F) f [⟨Rect.whole S1024x64, w⟩])) shapeCasts_S1x1024x64_S1024x64 = w := by
  subst h; exact View.read_writes_whole (slotE s).view f w
theorem loadedL (s : Fin 8) {o : Fin 3 → Nat} (h : o = ![s.val, 0, 0]) (p) (f : Cont (F := F) c (slotL s)) (w : Vec F S1024x2 .bf16) :
    shapeCast S1024x2 (ringL.view.readAt (Elt F) (Rect.unit (s := S8x1024x2) o S1x1024x2.size p).toLoadRect ((slotL s).view.writes (Elt F) f [⟨Rect.whole S1024x2, w⟩])) shapeCasts_S1x1024x2_S1024x2 = w := by
  subst h; exact View.read_writes_whole (slotL s).view f w

/-- The accumulators' new values from what was loaded. -/
theorem accBlock_of {vx : Vec F S1x1024x1024 .f32} {ve : Vec F S1x1024x64 .f32} {vl : Vec F S1x1024x2 .bf16} {x : Vec F S1024x1024 .f32} {e : Vec F S1024x64 .f32} {l : Vec F S1024x2 .bf16} {a a' : Vec F S1024x128 .f32}
    (hx : shapeCast S1024x1024 vx shapeCasts_S1x1024x1024_S1024x1024 = x) (he : shapeCast S1024x64 ve shapeCasts_S1x1024x64_S1024x64 = e) (hl : shapeCast S1024x2 vl shapeCasts_S1x1024x2_S1024x2 = l) (ha : a' = a) :
    k0_pay1 (k0_pay21 vl) (k0_pay22 vx) (k0_pay24 ve) (k0_pay25 ve) a' = accBlock x e l a := by
  subst hx he hl ha; rfl
theorem sqBlock_of {vx : Vec F S1x1024x1024 .f32} {ve : Vec F S1x1024x64 .f32} {x : Vec F S1024x1024 .f32} {e : Vec F S1024x64 .f32} {q q' : Vec F S1024x64 .f32}
    (hx : shapeCast S1024x1024 vx shapeCasts_S1x1024x1024_S1024x1024 = x) (he : shapeCast S1024x64 ve shapeCasts_S1x1024x64_S1024x64 = e) (hq : q' = q) :
    k0_pay2 (k0_pay23 vx) (k0_pay26 ve) q' = sqBlock x e q := by
  subst hx he hq; rfl
/-- The tails' new values and the output from what was loaded. -/
theorem accTail1_of {vx x : Vec F S1024x640 .f32} {ve e : Vec F S640x64 .f32} {vl l : Vec F S640x2 .bf16} {a' a : Vec F S1024x128 .f32}
    (hx : vx = x) (he : ve = e) (hl : vl = l) (ha : a' = a) : k0_pay11 vl (k0_pay6 vx) (k0_pay8 ve) (k0_pay10 ve) a' = accTail1 x e l a := by
  subst hx he hl ha; rfl
theorem sqTail1_of {vx x : Vec F S1024x640 .f32} {ve e : Vec F S640x64 .f32} {q' q : Vec F S1024x64 .f32}
    (hx : vx = x) (he : ve = e) (hq : q' = q) : k0_pay12 (k0_pay7 vx) (k0_pay9 ve) q' = sqTail1 x e q := by
  subst hx he hq; rfl
theorem accTail2_of {vx x : Vec F S1024x32 .f32} {ve e : Vec F S32x64 .f32} {vl l : Vec F S32x2 .bf16} {a' a : Vec F S1024x128 .f32}
    (hx : vx = x) (he : ve = e) (hl : vl = l) (ha : a' = a) : k0_pay16 vx ve vl a' = accTail2 x e l a := by
  subst hx he hl ha; rfl
theorem sqTail2_of {vx x : Vec F S1024x32 .f32} {ve e : Vec F S32x64 .f32} {q' q : Vec F S1024x64 .f32}
    (hx : vx = x) (he : ve = e) (hq : q' = q) : k0_pay17 (k0_pay14 vx) (k0_pay15 ve) q' (constant S1024x64 .f32 0x00000000#32) = sqTail2 x e q := by
  subst hx he hq; rfl
theorem finish_of {a' a : Vec F S1024x128 .f32} {q' q : Vec F S1024x64 .f32} {w1' w1 : Vec F S64x64 .f32} {b1' b1 : Vec F S64 .f32} {w2' w2 : Vec F S32x64 .f32} {b2' b2 : Vec F S32 .f32} {w3' w3 : Vec F S1x32 .f32} {b3' b3 : Vec F S1 .f32}
    (ha : a' = a) (hq : q' = q) (h1 : w1' = w1) (h2 : b1' = b1) (h3 : w2' = w2) (h4 : b2' = b2) (h5 : w3' = w3) (h6 : b3' = b3) :
    k0_pay3 (k0_pay18 a') (k0_pay19 a' q' w1' b1' w2' b2') w3' b3' = finish a q w1 b1 w2 b2 w3 b3 := by
  subst ha hq h1 h2 h3 h4 h5 h6; rfl
end Reads

end Cert.Nfm

end
-- ==== Proof.RingState.lean ====
module

public import proofs.«01_k».proof.Proof.Setup

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## A ring of eight slots over ninety-seven blocks -/

section State
variable (fre : Fin 8 → sProp (MT nD τ sig Unit (Elt F) ℕ (Pipeline.UD sig nD τ) ℕ)) (fly : Fin 8 → Fin 97 → sProp (MT nD τ sig Unit (Elt F) ℕ (Pipeline.UD sig nD τ) ℕ))

/-- The first point at or after `t` whose block slot `s` holds. -/
def nextOf (t : ℕ) (s : Fin 8) : ℕ := t + (s.val + 8 - t % 8) % 8
/-- Slot `s` before point `t`: in flight with the next block it holds, or free when there is none. -/
def slotState (t : ℕ) (s : Fin 8) : sProp 𝕄 := if nextOf t s < 97 then fly s (Ring.bk 97 (nextOf t s)) else fre s
/-- The ring before point `t`: all free before the first. -/
def ringState (t : ℕ) : sProp 𝕄 := if t = 0 then bigSep Finset.univ fre else bigSep Finset.univ (slotState fre fly t)

omit [FloatOps F] in
theorem nextOf_self (t : ℕ) : nextOf t (Ring.sl 8 t) = t := by
  have : (Ring.sl 8 t).val = t % 8 := by simp [Ring.sl, Fin.ofNat]
  unfold nextOf; omega
omit [FloatOps F] in
theorem nextOf_succ_self (t : ℕ) : nextOf (t + 1) (Ring.sl 8 t) = t + 8 := by
  have : (Ring.sl 8 t).val = t % 8 := by simp [Ring.sl, Fin.ofNat]
  unfold nextOf; omega
omit [FloatOps F] in
theorem nextOf_succ (t : ℕ) (s : Fin 8) (h : s ≠ Ring.sl 8 t) : nextOf (t + 1) s = nextOf t s := by
  have h1 : (Ring.sl 8 t).val = t % 8 := by simp [Ring.sl, Fin.ofNat]
  have h2 : s.val ≠ t % 8 := fun e => h (Fin.ext (e.trans h1.symm))
  have := s.isLt
  unfold nextOf; omega

/-- The slots other than point `t`'s are the same before point `t` and before the next. -/
theorem others_succ (t : ℕ) :
    bigSep (Finset.univ.erase (Ring.sl 8 t)) (slotState fre fly (t + 1)) = bigSep (Finset.univ.erase (Ring.sl 8 t)) (slotState fre fly t) :=
  bigSep_congr fun s hs => by unfold slotState; rw [nextOf_succ t s (Finset.ne_of_mem_erase hs)]

/-- Before a point past the first the point's slot has its block in flight. -/
theorem ring_take (t : ℕ) (h0 : t ≠ 0) (h : t < 97) :
    ringState fre fly t = iprop(fly (Ring.sl 8 t) (Ring.bk 97 t) ∗ bigSep (Finset.univ.erase (Ring.sl 8 t)) (slotState fre fly t)) := by
  unfold ringState; rw [if_neg h0, BI.bigSep_univ_at _ (Ring.sl 8 t)]
  have e : slotState fre fly t (Ring.sl 8 t) = fly (Ring.sl 8 t) (Ring.bk 97 t) := by unfold slotState; rw [nextOf_self, if_pos h]
  rw [e]
/-- After it, with block `t + 8` started there, the ring is as before the next point. -/
theorem ring_put (t : ℕ) (h : t + 8 < 97) :
    ringState fre fly (t + 1) = iprop(fly (Ring.sl 8 t) (Ring.bk 97 (t + 8)) ∗ bigSep (Finset.univ.erase (Ring.sl 8 t)) (slotState fre fly t)) := by
  unfold ringState; rw [if_neg (Nat.succ_ne_zero t), BI.bigSep_univ_at _ (Ring.sl 8 t), others_succ]
  have e : slotState fre fly (t + 1) (Ring.sl 8 t) = fly (Ring.sl 8 t) (Ring.bk 97 (t + 8)) := by unfold slotState; rw [nextOf_succ_self, if_pos h]
  rw [e]
/-- With nothing left to start the slot stays free. -/
theorem ring_leave (t : ℕ) (h : ¬ t + 8 < 97) :
    ringState fre fly (t + 1) = iprop(fre (Ring.sl 8 t) ∗ bigSep (Finset.univ.erase (Ring.sl 8 t)) (slotState fre fly t)) := by
  unfold ringState; rw [if_neg (Nat.succ_ne_zero t), BI.bigSep_univ_at _ (Ring.sl 8 t), others_succ]
  have e : slotState fre fly (t + 1) (Ring.sl 8 t) = fre (Ring.sl 8 t) := by unfold slotState; rw [nextOf_succ_self, if_neg h]
  rw [e]
/-- Before the first point, and after the last, every slot is free. -/
theorem ring_start : ringState fre fly 0 = bigSep Finset.univ fre := by unfold ringState; rw [if_pos rfl]
theorem ring_end : ringState fre fly 97 = bigSep Finset.univ fre := by
  unfold ringState; rw [if_neg (by decide)]
  exact bigSep_congr fun s _ => by unfold slotState; rw [if_neg (by unfold nextOf; omega)]
/-- The eight slots one by one. -/
theorem slots_list (P : Fin 8 → sProp 𝕄) : bigSep Finset.univ P = iprop(P 0 ∗ P 1 ∗ P 2 ∗ P 3 ∗ P 4 ∗ P 5 ∗ P 6 ∗ P 7) :=
  bigSep_univ_eq_bigSepL [0, 1, 2, 3, 4, 5, 6, 7] (by decide) (by decide) P
/-- After the first point the slots hold blocks 8, 1, …, 7. -/
theorem ring_one : ringState fre fly 1 = iprop(fly 0 8 ∗ fly 1 1 ∗ fly 2 2 ∗ fly 3 3 ∗ fly 4 4 ∗ fly 5 5 ∗ fly 6 6 ∗ fly 7 7) := by
  unfold ringState; rw [if_neg (by decide), slots_list]; rfl
end State

end Cert.Nfm

end
-- ==== Proof.Invariant.lean ====
module

public import proofs.«01_k».proof.Proof.RingState

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the accumulators hold -/

section Values
variable (c : Dev nD) (X : Cont (F := F) c hbmX) (E : Cont (F := F) c hbmE) (L : Cont (F := F) c hbmL)
/-- The first accumulator before point `k`: the first `k` blocks added to zero, in order. -/
def accAt : ℕ → Vec F S1024x128 .f32
  | 0 => k0_pay4
  | k + 1 => accBlock (seen c (srcX (Ring.bk 97 k)) X) (seen c (srcE (Ring.bk 97 k)) E) (seen c (srcL (Ring.bk 97 k)) L) (accAt k)
/-- The squares' accumulator before point `k`. -/
def sqAt : ℕ → Vec F S1024x64 .f32
  | 0 => k0_pay5
  | k + 1 => sqBlock (seen c (srcX (Ring.bk 97 k)) X) (seen c (srcE (Ring.bk 97 k)) E) (sqAt k)
/-- The first accumulator with every block and both tails added. -/
def accDone : Vec F S1024x128 .f32 :=
  accTail2 (seen c srcX2 X) (seen c srcE2 E) (seen c srcL2 L) (accTail1 (seen c srcX1 X) (seen c srcE1 E) (seen c srcL1 L) (accAt c X E L 97))
/-- The squares' accumulator with every block and both tails added. -/
def sqDone : Vec F S1024x64 .f32 :=
  sqTail2 (seen c srcX2 X) (seen c srcE2 E) (sqTail1 (seen c srcX1 X) (seen c srcE1 E) (sqAt c X E 97))
end Values

/-! ## The invariant between points -/

section Invariant
variable (c : Dev nD) (X : Cont (F := F) c hbmX) (E : Cont (F := F) c hbmE) (L : Cont (F := F) c hbmL)
/-- The six tails in flight. -/
def tailsFly : sProp 𝕄 := iprop(flyP c tailX1 semT0 srcX1 lentT1 X ∗ flyP c tailE1 semT1 srcE1 lentT1 E ∗ flyP c tailL1 semT2 srcL1 lentT1 L ∗ flyP c tailX2 semT3 srcX2 lentT2 X ∗ flyP c tailE2 semT4 srcE2 lentT2 E ∗ flyP c tailL2 semT5 srcL2 lentT2 L)
/-- The six tails free. -/
def tailsFree : sProp 𝕄 := iprop(freeP c tailX1 semT0 srcX1 lentT1 X ∗ freeP c tailE1 semT1 srcE1 lentT1 E ∗ freeP c tailL1 semT2 srcL1 lentT1 L ∗ freeP c tailX2 semT3 srcX2 lentT2 X ∗ freeP c tailE2 semT4 srcE2 lentT2 E ∗ freeP c tailL2 semT5 srcL2 lentT2 L)
/-- The tails before point `k`: in flight from the first point's end to the last point's start. -/
def tailsAt (k : ℕ) : sProp 𝕄 := if 1 ≤ k ∧ k ≤ 96 then tailsFly c X E L else tailsFree c X E L
/-- Before point `k`: the accumulators at the blocks added so far, the generator register, the three rings and the tails. -/
def inv (k : ℕ) : sProp 𝕄 :=
  iprop((∃ d, owns (c : Thread nD τ) accM fullShare d ∗ ⌜1 ≤ k ∧ k ≤ 96 → d = accAt c X E L k⌝)
    ∗ (∃ d, owns (c : Thread nD τ) sqM fullShare d ∗ ⌜1 ≤ k ∧ k ≤ 96 → d = sqAt c X E k⌝)
    ∗ (∃ r, prngReg c r)
    ∗ ringState (freeX c X) (flyX c X) k ∗ ringState (freeE c E) (flyE c E) k ∗ ringState (freeL c L) (flyL c L) k ∗ tailsAt c X E L k)

/-- Free slots are ready to be filled with blocks 0 to 7, -/
theorem readyX : bigSep Finset.univ (freeX c X) ⊢ iprop(readyP c (slotX 0) (semX 0) (srcX 0) (lent 0) X ∗ readyP c (slotX 1) (semX 1) (srcX 1) (lent 1) X ∗ readyP c (slotX 2) (semX 2) (srcX 2) (lent 2) X ∗ readyP c (slotX 3) (semX 3) (srcX 3) (lent 3) X ∗ readyP c (slotX 4) (semX 4) (srcX 4) (lent 4) X ∗ readyP c (slotX 5) (semX 5) (srcX 5) (lent 5) X ∗ readyP c (slotX 6) (semX 6) (srcX 6) (lent 6) X ∗ readyP c (slotX 7) (semX 7) (srcX 7) (lent 7) X) := by
  rw [slots_list]
  exact BI.sep_mono (ready_of_free c (slotX 0) (semX 0) (srcX 0) (lent 0) X) (BI.sep_mono (ready_of_free c (slotX 1) (semX 1) (srcX 1) (lent 1) X) (BI.sep_mono (ready_of_free c (slotX 2) (semX 2) (srcX 2) (lent 2) X) (BI.sep_mono (ready_of_free c (slotX 3) (semX 3) (srcX 3) (lent 3) X) (BI.sep_mono (ready_of_free c (slotX 4) (semX 4) (srcX 4) (lent 4) X) (BI.sep_mono (ready_of_free c (slotX 5) (semX 5) (srcX 5) (lent 5) X) (BI.sep_mono (ready_of_free c (slotX 6) (semX 6) (srcX 6) (lent 6) X) (ready_of_free c (slotX 7) (semX 7) (srcX 7) (lent 7) X)))))))
theorem readyE : bigSep Finset.univ (freeE c E) ⊢ iprop(readyP c (slotE 0) (semE 0) (srcE 0) (lent 0) E ∗ readyP c (slotE 1) (semE 1) (srcE 1) (lent 1) E ∗ readyP c (slotE 2) (semE 2) (srcE 2) (lent 2) E ∗ readyP c (slotE 3) (semE 3) (srcE 3) (lent 3) E ∗ readyP c (slotE 4) (semE 4) (srcE 4) (lent 4) E ∗ readyP c (slotE 5) (semE 5) (srcE 5) (lent 5) E ∗ readyP c (slotE 6) (semE 6) (srcE 6) (lent 6) E ∗ readyP c (slotE 7) (semE 7) (srcE 7) (lent 7) E) := by
  rw [slots_list]
  exact BI.sep_mono (ready_of_free c (slotE 0) (semE 0) (srcE 0) (lent 0) E) (BI.sep_mono (ready_of_free c (slotE 1) (semE 1) (srcE 1) (lent 1) E) (BI.sep_mono (ready_of_free c (slotE 2) (semE 2) (srcE 2) (lent 2) E) (BI.sep_mono (ready_of_free c (slotE 3) (semE 3) (srcE 3) (lent 3) E) (BI.sep_mono (ready_of_free c (slotE 4) (semE 4) (srcE 4) (lent 4) E) (BI.sep_mono (ready_of_free c (slotE 5) (semE 5) (srcE 5) (lent 5) E) (BI.sep_mono (ready_of_free c (slotE 6) (semE 6) (srcE 6) (lent 6) E) (ready_of_free c (slotE 7) (semE 7) (srcE 7) (lent 7) E)))))))
theorem readyL : bigSep Finset.univ (freeL c L) ⊢ iprop(readyP c (slotL 0) (semL 0) (srcL 0) (lent 0) L ∗ readyP c (slotL 1) (semL 1) (srcL 1) (lent 1) L ∗ readyP c (slotL 2) (semL 2) (srcL 2) (lent 2) L ∗ readyP c (slotL 3) (semL 3) (srcL 3) (lent 3) L ∗ readyP c (slotL 4) (semL 4) (srcL 4) (lent 4) L ∗ readyP c (slotL 5) (semL 5) (srcL 5) (lent 5) L ∗ readyP c (slotL 6) (semL 6) (srcL 6) (lent 6) L ∗ readyP c (slotL 7) (semL 7) (srcL 7) (lent 7) L) := by
  rw [slots_list]
  exact BI.sep_mono (ready_of_free c (slotL 0) (semL 0) (srcL 0) (lent 0) L) (BI.sep_mono (ready_of_free c (slotL 1) (semL 1) (srcL 1) (lent 1) L) (BI.sep_mono (ready_of_free c (slotL 2) (semL 2) (srcL 2) (lent 2) L) (BI.sep_mono (ready_of_free c (slotL 3) (semL 3) (srcL 3) (lent 3) L) (BI.sep_mono (ready_of_free c (slotL 4) (semL 4) (srcL 4) (lent 4) L) (BI.sep_mono (ready_of_free c (slotL 5) (semL 5) (srcL 5) (lent 5) L) (BI.sep_mono (ready_of_free c (slotL 6) (semL 6) (srcL 6) (lent 6) L) (ready_of_free c (slotL 7) (semL 7) (srcL 7) (lent 7) L)))))))
/-- and free tails with their own. -/
theorem ready_tails : tailsFree c X E L ⊢ iprop(readyP c tailX1 semT0 srcX1 lentT1 X ∗ readyP c tailE1 semT1 srcE1 lentT1 E ∗ readyP c tailL1 semT2 srcL1 lentT1 L ∗ readyP c tailX2 semT3 srcX2 lentT2 X ∗ readyP c tailE2 semT4 srcE2 lentT2 E ∗ readyP c tailL2 semT5 srcL2 lentT2 L) := by
  unfold tailsFree
  exact BI.sep_mono (ready_of_free c tailX1 semT0 srcX1 lentT1 X) (BI.sep_mono (ready_of_free c tailE1 semT1 srcE1 lentT1 E) (BI.sep_mono (ready_of_free c tailL1 semT2 srcL1 lentT1 L) (BI.sep_mono (ready_of_free c tailX2 semT3 srcX2 lentT2 X) (BI.sep_mono (ready_of_free c tailE2 semT4 srcE2 lentT2 E) (ready_of_free c tailL2 semT5 srcL2 lentT2 L)))))
theorem tailsAt_fly (k : ℕ) (h : 1 ≤ k ∧ k ≤ 96) : tailsAt c X E L k = tailsFly c X E L := by unfold tailsAt; rw [if_pos h]
theorem tailsAt_free (k : ℕ) (h : ¬ (1 ≤ k ∧ k ≤ 96)) : tailsAt c X E L k = tailsFree c X E L := by unfold tailsAt; rw [if_neg h]
end Invariant

end Cert.Nfm

end
-- ==== Proof.RunFirst.lean ====
module

public import proofs.«01_k».proof.Proof.Setup

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Point 0's slot, block and cell are the first ones. -/
theorem first_slot : ∀ t : Fin grid0.N, isFirst (grid0.coords t) → (![0, 0, 0] : Fin 3 → Nat) = ![(Ring.sl 8 t.val).val, 0, 0] := by decide +kernel
theorem first_cell : ∀ t : Fin grid0.N, isFirst (grid0.coords t) → (![0] : Fin 1 → Nat) = ![(Ring.sl 8 t.val).val] := by decide +kernel
theorem first_col : ∀ t : Fin grid0.N, isFirst (grid0.coords t) → (![0, 0] : Fin 2 → Nat) = ![0, 1024 * (Ring.bk 97 t.val).val] := by decide +kernel
theorem first_row : ∀ t : Fin grid0.N, isFirst (grid0.coords t) → (![0, 0] : Fin 2 → Nat) = ![1024 * (Ring.bk 97 t.val).val, 0] := by decide +kernel

variable (c : Dev nD) (t : Fin cfg0.N)
    (arg4 : Memref sig .tc .vmem S64x64 .f32) (harg4 : arg4.IsWhole) (arg5 : Memref sig .tc .vmem S64 .f32) (harg5 : arg5.IsWhole) (arg6 : Memref sig .tc .vmem S32x64 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1 .f32) (harg9 : arg9.IsWhole) (arg10 : Memref sig .tc .vmem S1024 .f32) (harg10 : arg10.IsWhole)
    (arg20 : Memref sig .tc .vmem S1024x128 .f32) (harg20 : arg20.IsWhole) (arg21 : Memref sig .tc .vmem S1024x64 .f32) (harg21 : arg21.IsWhole)
    (X : Cont (F := F) c hbmX) (E : Cont (F := F) c hbmE) (L : Cont (F := F) c hbmL) (a : Vec F S1024x128 .f32) (q : Vec F S1024x64 .f32) (W : Waits sig Unit)

set_option maxHeartbeats 2000000 in
/-- The first point: the body zeroes the accumulators, starts blocks 0 to 7 and both tails, waits for block 0, adds it, and starts block 8. -/
theorem runA (K : PUnit → sProp 𝕄) (h0 : isFirst (grid0.coords t)) (h1 : isAhead (grid0.coords t)) (h2 : ¬isLast (grid0.coords t)) :
    iprop((∃ d, owns (c : Thread nD τ) arg20 fullShare d) ∗ (∃ d, owns (c : Thread nD τ) arg21 fullShare d)
        ∗ readyP c (slotX (Ring.sl 8 t.val)) (semX (Ring.sl 8 t.val)) (srcX (Ring.bk 97 t.val)) (lent (Ring.sl 8 t.val)) X ∗ readyP c (slotE (Ring.sl 8 t.val)) (semE (Ring.sl 8 t.val)) (srcE (Ring.bk 97 t.val)) (lent (Ring.sl 8 t.val)) E ∗ readyP c (slotL (Ring.sl 8 t.val)) (semL (Ring.sl 8 t.val)) (srcL (Ring.bk 97 t.val)) (lent (Ring.sl 8 t.val)) L
        ∗ readyP c (slotX 1) (semX 1) (srcX 1) (lent 1) X ∗ readyP c (slotX 2) (semX 2) (srcX 2) (lent 2) X ∗ readyP c (slotX 3) (semX 3) (srcX 3) (lent 3) X ∗ readyP c (slotX 4) (semX 4) (srcX 4) (lent 4) X ∗ readyP c (slotX 5) (semX 5) (srcX 5) (lent 5) X ∗ readyP c (slotX 6) (semX 6) (srcX 6) (lent 6) X ∗ readyP c (slotX 7) (semX 7) (srcX 7) (lent 7) X ∗ readyP c (slotE 1) (semE 1) (srcE 1) (lent 1) E ∗ readyP c (slotE 2) (semE 2) (srcE 2) (lent 2) E ∗ readyP c (slotE 3) (semE 3) (srcE 3) (lent 3) E ∗ readyP c (slotE 4) (semE 4) (srcE 4) (lent 4) E ∗ readyP c (slotE 5) (semE 5) (srcE 5) (lent 5) E ∗ readyP c (slotE 6) (semE 6) (srcE 6) (lent 6) E ∗ readyP c (slotE 7) (semE 7) (srcE 7) (lent 7) E ∗ readyP c (slotL 1) (semL 1) (srcL 1) (lent 1) L ∗ readyP c (slotL 2) (semL 2) (srcL 2) (lent 2) L ∗ readyP c (slotL 3) (semL 3) (srcL 3) (lent 3) L ∗ readyP c (slotL 4) (semL 4) (srcL 4) (lent 4) L ∗ readyP c (slotL 5) (semL 5) (srcL 5) (lent 5) L ∗ readyP c (slotL 6) (semL 6) (srcL 6) (lent 6) L ∗ readyP c (slotL 7) (semL 7) (srcL 7) (lent 7) L
        ∗ readyP c tailX1 semT0 srcX1 lentT1 X ∗ readyP c tailE1 semT1 srcE1 lentT1 E ∗ readyP c tailL1 semT2 srcL1 lentT1 L ∗ readyP c tailX2 semT3 srcX2 lentT2 X ∗ readyP c tailE2 semT4 srcE2 lentT2 E ∗ readyP c tailL2 semT5 srcL2 lentT2 L
        ∗ owes (c : Thread nD τ) 0 W
        ∗ (iprop(owns (c : Thread nD τ) arg20 fullShare (accBlock (seen c (srcX (Ring.bk 97 t.val)) X) (seen c (srcE (Ring.bk 97 t.val)) E) (seen c (srcL (Ring.bk 97 t.val)) L) k0_pay4)
            ∗ owns (c : Thread nD τ) arg21 fullShare (sqBlock (seen c (srcX (Ring.bk 97 t.val)) X) (seen c (srcE (Ring.bk 97 t.val)) E) k0_pay5)
            ∗ flyX c X (Ring.sl 8 t.val) (Ring.bk 97 (t.val + 8)) ∗ flyE c E (Ring.sl 8 t.val) (Ring.bk 97 (t.val + 8)) ∗ flyL c L (Ring.sl 8 t.val) (Ring.bk 97 (t.val + 8))
            ∗ flyX c X 1 1 ∗ flyX c X 2 2 ∗ flyX c X 3 3 ∗ flyX c X 4 4 ∗ flyX c X 5 5 ∗ flyX c X 6 6 ∗ flyX c X 7 7 ∗ flyE c E 1 1 ∗ flyE c E 2 2 ∗ flyE c E 3 3 ∗ flyE c E 4 4 ∗ flyE c E 5 5 ∗ flyE c E 6 6 ∗ flyE c E 7 7 ∗ flyL c L 1 1 ∗ flyL c L 2 2 ∗ flyL c L 3 3 ∗ flyL c L 4 4 ∗ flyL c L 5 5 ∗ flyL c L 6 6 ∗ flyL c L 7 7
            ∗ flyP c tailX1 semT0 srcX1 lentT1 X ∗ flyP c tailE1 semT1 srcE1 lentT1 E ∗ flyP c tailL1 semT2 srcL1 lentT1 L ∗ flyP c tailX2 semT3 srcX2 lentT2 X ∗ flyP c tailE2 semT4 srcE2 lentT2 E ∗ flyP c tailL2 semT5 srcL2 lentT2 L
            ∗ (∃ W', owes (c : Thread nD τ) 0 W')) -∗ K ⟨⟩))
      ⊢ wp frame (wpE (defs₀ (F := F)) Variants.none c none) Set.univ (cc0__nfm_kernel (grid0.coords t) hbmX (Memref.isWhole_whole _) hbmE (Memref.isWhole_whole _) hbmL (Memref.isWhole_whole _) arg4 harg4 arg5 harg5 arg6 harg6 arg7 harg7 arg8 harg8 arg9 harg9 arg10 harg10
          ringX (Memref.isWhole_whole _) ringE (Memref.isWhole_whole _) ringL (Memref.isWhole_whole _)
          tailX1 (Memref.isWhole_whole _) tailE1 (Memref.isWhole_whole _) tailL1 (Memref.isWhole_whole _) tailX2 (Memref.isWhole_whole _) tailE2 (Memref.isWhole_whole _) tailL2 (Memref.isWhole_whole _)
          arg20 harg20 arg21 harg21 cc0_scratch11 cc0_scratch12 cc0_scratch13 cc0_scratch14) K := by
  have hcanonX := startX t h1
  have hcanonE := startE t h1
  have hcanonL := startL t h1
  have hcanonA := startCell cc0_scratch11 t h1
  have hcanonB := startCell cc0_scratch12 t h1
  have hcanonC := startCell cc0_scratch13 t h1
  have hcanonX' := nextX t h1
  have hcanonE' := nextE t h1
  have hcanonL' := nextL t h1
  have hcanon0X := slotX_of (Ring.sl 8 t.val) (o := ![0, 0, 0]) (first_slot t h0) inb_S8x1024x1024_S1x1024x1024_0_0_0
  have hcanon0E := slotE_of (Ring.sl 8 t.val) (o := ![0, 0, 0]) (first_slot t h0) inb_S8x1024x64_S1x1024x64_0_0_0
  have hcanon0L := slotL_of (Ring.sl 8 t.val) (o := ![0, 0, 0]) (first_slot t h0) inb_S8x1024x2_S1x1024x2_0_0_0
  have hcanon0A := cell_of cc0_scratch11 (Ring.sl 8 t.val) (o := ![0]) (first_cell t h0) inb_S8_S1_0
  have hcanon0B := cell_of cc0_scratch12 (Ring.sl 8 t.val) (o := ![0]) (first_cell t h0) inb_S8_S1_0
  have hcanon0C := cell_of cc0_scratch13 (Ring.sl 8 t.val) (o := ![0]) (first_cell t h0) inb_S8_S1_0
  have hcanon0X' := srcX_of (Ring.bk 97 t.val) (o := ![0, 0]) (first_col t h0) inb_S1024x100000_S1024x1024_0_0
  have hcanon0E' := srcE_of (Ring.bk 97 t.val) (o := ![0, 0]) (first_row t h0) inb_S100000x64_S1024x64_0_0
  have hcanon0L' := srcL_of (Ring.bk 97 t.val) (o := ![0, 0]) (first_row t h0) inb_S100000x2_S1024x2_0_0
  simp only [cc0__nfm_kernel_eq_skeleton]; unfold cc0__nfm_kernel_skel
  simp only [k0_part9_eq_skeleton, k0_part1_eq_skeleton, k0_part2_eq_skeleton, k0_part3_eq_skeleton, k0_part4_eq_skeleton, k0_part5_eq_skeleton]
  unfold owns
  iintro ⟨⟨%da, %fa, -, HA⟩, ⟨%dq, %fq, -, HQ⟩, ⟨HfX, ⟨%fX, HdX⟩, HsX, HrX⟩, ⟨HfE, ⟨%fE, HdE⟩, HsE, HrE⟩, ⟨HfL, ⟨%fL, HdL⟩, HsL, HrL⟩, ⟨HfXs1, ⟨%fXs1, HdXs1⟩, HsXs1, HrXs1⟩, ⟨HfXs2, ⟨%fXs2, HdXs2⟩, HsXs2, HrXs2⟩, ⟨HfXs3, ⟨%fXs3, HdXs3⟩, HsXs3, HrXs3⟩, ⟨HfXs4, ⟨%fXs4, HdXs4⟩, HsXs4, HrXs4⟩, ⟨HfXs5, ⟨%fXs5, HdXs5⟩, HsXs5, HrXs5⟩, ⟨HfXs6, ⟨%fXs6, HdXs6⟩, HsXs6, HrXs6⟩, ⟨HfXs7, ⟨%fXs7, HdXs7⟩, HsXs7, HrXs7⟩, ⟨HfEs1, ⟨%fEs1, HdEs1⟩, HsEs1, HrEs1⟩, ⟨HfEs2, ⟨%fEs2, HdEs2⟩, HsEs2, HrEs2⟩, ⟨HfEs3, ⟨%fEs3, HdEs3⟩, HsEs3, HrEs3⟩, ⟨HfEs4, ⟨%fEs4, HdEs4⟩, HsEs4, HrEs4⟩, ⟨HfEs5, ⟨%fEs5, HdEs5⟩, HsEs5, HrEs5⟩, ⟨HfEs6, ⟨%fEs6, HdEs6⟩, HsEs6, HrEs6⟩, ⟨HfEs7, ⟨%fEs7, HdEs7⟩, HsEs7, HrEs7⟩, ⟨HfLs1, ⟨%fLs1, HdLs1⟩, HsLs1, HrLs1⟩, ⟨HfLs2, ⟨%fLs2, HdLs2⟩, HsLs2, HrLs2⟩, ⟨HfLs3, ⟨%fLs3, HdLs3⟩, HsLs3, HrLs3⟩, ⟨HfLs4, ⟨%fLs4, HdLs4⟩, HsLs4, HrLs4⟩, ⟨HfLs5, ⟨%fLs5, HdLs5⟩, HsLs5, HrLs5⟩, ⟨HfLs6, ⟨%fLs6, HdLs6⟩, HsLs6, HrLs6⟩, ⟨HfLs7, ⟨%fLs7, HdLs7⟩, HsLs7, HrLs7⟩, ⟨HfX1, ⟨%fX1, HdX1⟩, HsX1, HrX1⟩, ⟨HfE1, ⟨%fE1, HdE1⟩, HsE1, HrE1⟩, ⟨HfL1, ⟨%fL1, HdL1⟩, HsL1, HrL1⟩, ⟨HfX2, ⟨%fX2, HdX2⟩, HsX2, HrX2⟩, ⟨HfE2, ⟨%fE2, HdE2⟩, HsE2, HrE2⟩, ⟨HfL2, ⟨%fL2, HdL2⟩, HsL2, HrL2⟩, HW, Hk⟩
  sl_exec (disch := first | sl_exact h0 | sl_exact h1 | sl_exact h2)
  ihave HgX := forget c (slotX (Ring.sl 8 t.val)) $$ HdX
  icases HgX with ⟨%gX, HdX⟩
  ihave HwX := (splitX c X (Ring.sl 8 t.val) (Ring.bk 97 t.val)).2 $$ [HsX HrX]
  · isplitl [HsX]
    · iexact HsX
    · iexact HrX
  ihave HvX := (splitX c X (Ring.sl 8 t.val) (Ring.bk 97 (t.val + 8))).1 $$ HwX
  icases HvX with ⟨HsX, HrX⟩
  ihave HgE := forget c (slotE (Ring.sl 8 t.val)) $$ HdE
  icases HgE with ⟨%gE, HdE⟩
  ihave HwE := (splitE c E (Ring.sl 8 t.val) (Ring.bk 97 t.val)).2 $$ [HsE HrE]
  · isplitl [HsE]
    · iexact HsE
    · iexact HrE
  ihave HvE := (splitE c E (Ring.sl 8 t.val) (Ring.bk 97 (t.val + 8))).1 $$ HwE
  icases HvE with ⟨HsE, HrE⟩
  ihave HgL := forget c (slotL (Ring.sl 8 t.val)) $$ HdL
  icases HgL with ⟨%gL, HdL⟩
  ihave HwL := (splitL c L (Ring.sl 8 t.val) (Ring.bk 97 t.val)).2 $$ [HsL HrL]
  · isplitl [HsL]
    · iexact HsL
    · iexact HrL
  ihave HvL := (splitL c L (Ring.sl 8 t.val) (Ring.bk 97 (t.val + 8))).1 $$ HwL
  icases HvL with ⟨HsL, HrL⟩
  sl_exec (disch := first | sl_exact h0 | sl_exact h1 | sl_exact h2)
  sl_step
  iapply Hk
  isplitl [HA]
  · iexists _; isplitr; swap
    · iexact HA
    · ipureintro
      refine (View.read_writes_full _ _ _ _ _).trans (accBlock_of (loadedX c _ (off8_at t) _ _ _) (loadedE c _ (off9_at t) _ _ _) (loadedL c _ (off10_at t) _ _ _) ?_)
      exact View.readCov_full _ _ _ _ _
  isplitl [HQ]
  · iexists _; isplitr; swap
    · iexact HQ
    · ipureintro
      refine (View.read_writes_full _ _ _ _ _).trans (sqBlock_of (loadedX c _ (off8_at t) _ _ _) (loadedE c _ (off9_at t) _ _ _) ?_)
      exact View.readCov_full _ _ _ _ _
  isplitl [HfX HrX]
  · iexists gX; isplitl [HfX]
    · iexact HfX
    · iexact HrX
  isplitl [HfE HrE]
  · iexists gE; isplitl [HfE]
    · iexact HfE
    · iexact HrE
  isplitl [HfL HrL]
  · iexists gL; isplitl [HfL]
    · iexact HfL
    · iexact HrL
  isplitl [HfXs1 HrXs1]
  · iexists fXs1; isplitl [HfXs1]
    · iexact HfXs1
    · iexact HrXs1
  isplitl [HfXs2 HrXs2]
  · iexists fXs2; isplitl [HfXs2]
    · iexact HfXs2
    · iexact HrXs2
  isplitl [HfXs3 HrXs3]
  · iexists fXs3; isplitl [HfXs3]
    · iexact HfXs3
    · iexact HrXs3
  isplitl [HfXs4 HrXs4]
  · iexists fXs4; isplitl [HfXs4]
    · iexact HfXs4
    · iexact HrXs4
  isplitl [HfXs5 HrXs5]
  · iexists fXs5; isplitl [HfXs5]
    · iexact HfXs5
    · iexact HrXs5
  isplitl [HfXs6 HrXs6]
  · iexists fXs6; isplitl [HfXs6]
    · iexact HfXs6
    · iexact HrXs6
  isplitl [HfXs7 HrXs7]
  · iexists fXs7; isplitl [HfXs7]
    · iexact HfXs7
    · iexact HrXs7
  isplitl [HfEs1 HrEs1]
  · iexists fEs1; isplitl [HfEs1]
    · iexact HfEs1
    · iexact HrEs1
  isplitl [HfEs2 HrEs2]
  · iexists fEs2; isplitl [HfEs2]
    · iexact HfEs2
    · iexact HrEs2
  isplitl [HfEs3 HrEs3]
  · iexists fEs3; isplitl [HfEs3]
    · iexact HfEs3
    · iexact HrEs3
  isplitl [HfEs4 HrEs4]
  · iexists fEs4; isplitl [HfEs4]
    · iexact HfEs4
    · iexact HrEs4
  isplitl [HfEs5 HrEs5]
  · iexists fEs5; isplitl [HfEs5]
    · iexact HfEs5
    · iexact HrEs5
  isplitl [HfEs6 HrEs6]
  · iexists fEs6; isplitl [HfEs6]
    · iexact HfEs6
    · iexact HrEs6
  isplitl [HfEs7 HrEs7]
  · iexists fEs7; isplitl [HfEs7]
    · iexact HfEs7
    · iexact HrEs7
  isplitl [HfLs1 HrLs1]
  · iexists fLs1; isplitl [HfLs1]
    · iexact HfLs1
    · iexact HrLs1
  isplitl [HfLs2 HrLs2]
  · iexists fLs2; isplitl [HfLs2]
    · iexact HfLs2
    · iexact HrLs2
  isplitl [HfLs3 HrLs3]
  · iexists fLs3; isplitl [HfLs3]
    · iexact HfLs3
    · iexact HrLs3
  isplitl [HfLs4 HrLs4]
  · iexists fLs4; isplitl [HfLs4]
    · iexact HfLs4
    · iexact HrLs4
  isplitl [HfLs5 HrLs5]
  · iexists fLs5; isplitl [HfLs5]
    · iexact HfLs5
    · iexact HrLs5
  isplitl [HfLs6 HrLs6]
  · iexists fLs6; isplitl [HfLs6]
    · iexact HfLs6
    · iexact HrLs6
  isplitl [HfLs7 HrLs7]
  · iexists fLs7; isplitl [HfLs7]
    · iexact HfLs7
    · iexact HrLs7
  isplitl [HfX1 HrX1]
  · iexists fX1; isplitl [HfX1]
    · iexact HfX1
    · iexact HrX1
  isplitl [HfE1 HrE1]
  · iexists fE1; isplitl [HfE1]
    · iexact HfE1
    · iexact HrE1
  isplitl [HfL1 HrL1]
  · iexists fL1; isplitl [HfL1]
    · iexact HfL1
    · iexact HrL1
  isplitl [HfX2 HrX2]
  · iexists fX2; isplitl [HfX2]
    · iexact HfX2
    · iexact HrX2
  isplitl [HfE2 HrE2]
  · iexists fE2; isplitl [HfE2]
    · iexact HfE2
    · iexact HrE2
  isplitl [HfL2 HrL2]
  · iexists fL2; isplitl [HfL2]
    · iexact HfL2
    · iexact HrL2
  iexists _; iexact HW

end Cert.Nfm

end
-- ==== Proof.RunMid.lean ====
module

public import proofs.«01_k».proof.Proof.Setup

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin cfg0.N)
    (arg4 : Memref sig .tc .vmem S64x64 .f32) (harg4 : arg4.IsWhole) (arg5 : Memref sig .tc .vmem S64 .f32) (harg5 : arg5.IsWhole) (arg6 : Memref sig .tc .vmem S32x64 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1 .f32) (harg9 : arg9.IsWhole) (arg10 : Memref sig .tc .vmem S1024 .f32) (harg10 : arg10.IsWhole)
    (arg20 : Memref sig .tc .vmem S1024x128 .f32) (harg20 : arg20.IsWhole) (arg21 : Memref sig .tc .vmem S1024x64 .f32) (harg21 : arg21.IsWhole)
    (X : Cont (F := F) c hbmX) (E : Cont (F := F) c hbmE) (L : Cont (F := F) c hbmL) (a : Vec F S1024x128 .f32) (q : Vec F S1024x64 .f32) (W : Waits sig Unit)

set_option maxHeartbeats 2000000 in
/-- A middle point that starts a block ahead: the body waits for block `t`, adds it to both accumulators, and starts
    block `t + 8` into the slot it freed. -/
theorem runB (K : PUnit → sProp 𝕄) (h0 : ¬isFirst (grid0.coords t)) (h1 : isAhead (grid0.coords t)) (h2 : ¬isLast (grid0.coords t)) :
    iprop(owns (c : Thread nD τ) arg20 fullShare a ∗ owns (c : Thread nD τ) arg21 fullShare q
        ∗ flyX c X (Ring.sl 8 t.val) (Ring.bk 97 t.val) ∗ flyE c E (Ring.sl 8 t.val) (Ring.bk 97 t.val) ∗ flyL c L (Ring.sl 8 t.val) (Ring.bk 97 t.val)
        ∗ owes (c : Thread nD τ) 0 W
        ∗ (iprop(owns (c : Thread nD τ) arg20 fullShare (accBlock (seen c (srcX (Ring.bk 97 t.val)) X) (seen c (srcE (Ring.bk 97 t.val)) E) (seen c (srcL (Ring.bk 97 t.val)) L) a)
            ∗ owns (c : Thread nD τ) arg21 fullShare (sqBlock (seen c (srcX (Ring.bk 97 t.val)) X) (seen c (srcE (Ring.bk 97 t.val)) E) q)
            ∗ flyX c X (Ring.sl 8 t.val) (Ring.bk 97 (t.val + 8)) ∗ flyE c E (Ring.sl 8 t.val) (Ring.bk 97 (t.val + 8)) ∗ flyL c L (Ring.sl 8 t.val) (Ring.bk 97 (t.val + 8))
            ∗ (∃ W', owes (c : Thread nD τ) 0 W')) -∗ K ⟨⟩))
      ⊢ wp frame (wpE (defs₀ (F := F)) Variants.none c none) Set.univ (cc0__nfm_kernel (grid0.coords t) hbmX (Memref.isWhole_whole _) hbmE (Memref.isWhole_whole _) hbmL (Memref.isWhole_whole _) arg4 harg4 arg5 harg5 arg6 harg6 arg7 harg7 arg8 harg8 arg9 harg9 arg10 harg10
          ringX (Memref.isWhole_whole _) ringE (Memref.isWhole_whole _) ringL (Memref.isWhole_whole _)
          tailX1 (Memref.isWhole_whole _) tailE1 (Memref.isWhole_whole _) tailL1 (Memref.isWhole_whole _) tailX2 (Memref.isWhole_whole _) tailE2 (Memref.isWhole_whole _) tailL2 (Memref.isWhole_whole _)
          arg20 harg20 arg21 harg21 cc0_scratch11 cc0_scratch12 cc0_scratch13 cc0_scratch14) K := by
  have hcanonX := startX t h1
  have hcanonE := startE t h1
  have hcanonL := startL t h1
  have hcanonA := startCell cc0_scratch11 t h1
  have hcanonB := startCell cc0_scratch12 t h1
  have hcanonC := startCell cc0_scratch13 t h1
  have hcanonX' := nextX t h1
  have hcanonE' := nextE t h1
  have hcanonL' := nextL t h1
  simp only [cc0__nfm_kernel_eq_skeleton]; unfold cc0__nfm_kernel_skel
  simp only [k0_part9_eq_skeleton]
  unfold owns
  iintro ⟨⟨%fa, %hfa, HA⟩, ⟨%fq, %hfq, HQ⟩, ⟨%fX, HfX, HrX⟩, ⟨%fE, HfE, HrE⟩, ⟨%fL, HfL, HrL⟩, HW, Hk⟩
  obtain rfl := harg20.eq_unread hfa; obtain rfl := harg21.eq_unread hfq
  sl_exec (disch := first | sl_exact h0 | sl_exact h1 | sl_exact h2)
  ihave HgX := forget c (slotX (Ring.sl 8 t.val)) $$ HfX_dst
  icases HgX with ⟨%gX, HdX⟩
  ihave HwX := (splitX c X (Ring.sl 8 t.val) (Ring.bk 97 t.val)).2 $$ [HfX_src HrX]
  · isplitl [HfX_src]
    · iexact HfX_src
    · iexact HrX
  ihave HvX := (splitX c X (Ring.sl 8 t.val) (Ring.bk 97 (t.val + 8))).1 $$ HwX
  icases HvX with ⟨HsX, HrX⟩
  ihave HgE := forget c (slotE (Ring.sl 8 t.val)) $$ HfE_dst
  icases HgE with ⟨%gE, HdE⟩
  ihave HwE := (splitE c E (Ring.sl 8 t.val) (Ring.bk 97 t.val)).2 $$ [HfE_src HrE]
  · isplitl [HfE_src]
    · iexact HfE_src
    · iexact HrE
  ihave HvE := (splitE c E (Ring.sl 8 t.val) (Ring.bk 97 (t.val + 8))).1 $$ HwE
  icases HvE with ⟨HsE, HrE⟩
  ihave HgL := forget c (slotL (Ring.sl 8 t.val)) $$ HfL_dst
  icases HgL with ⟨%gL, HdL⟩
  ihave HwL := (splitL c L (Ring.sl 8 t.val) (Ring.bk 97 t.val)).2 $$ [HfL_src HrL]
  · isplitl [HfL_src]
    · iexact HfL_src
    · iexact HrL
  ihave HvL := (splitL c L (Ring.sl 8 t.val) (Ring.bk 97 (t.val + 8))).1 $$ HwL
  icases HvL with ⟨HsL, HrL⟩
  sl_exec (disch := first | sl_exact h0 | sl_exact h1 | sl_exact h2)
  sl_step
  iapply Hk
  isplitl [HA]
  · iexists _; isplitr; swap
    · iexact HA
    · ipureintro
      refine (View.read_writes_full _ _ _ _ _).trans (accBlock_of (loadedX c _ (off8_at t) _ _ _) (loadedE c _ (off9_at t) _ _ _) (loadedL c _ (off10_at t) _ _ _) ?_)
      exact (View.readAt_full _ _ _).trans hfa
  isplitl [HQ]
  · iexists _; isplitr; swap
    · iexact HQ
    · ipureintro
      refine (View.read_writes_full _ _ _ _ _).trans (sqBlock_of (loadedX c _ (off8_at t) _ _ _) (loadedE c _ (off9_at t) _ _ _) ?_)
      exact (View.readAt_full _ _ _).trans hfq
  isplitl [HfX HrX]
  · iexists gX; isplitl [HfX]
    · iexact HfX
    · iexact HrX
  isplitl [HfE HrE]
  · iexists gE; isplitl [HfE]
    · iexact HfE
    · iexact HrE
  isplitl [HfL HrL]
  · iexists gL; isplitl [HfL]
    · iexact HfL
    · iexact HrL
  iexists _; iexact HW

set_option maxHeartbeats 2000000 in
/-- A middle point that starts nothing: the body waits for block `t`, adds it to both accumulators and leaves its slot free. -/
theorem runC (K : PUnit → sProp 𝕄) (h0 : ¬isFirst (grid0.coords t)) (h1 : ¬isAhead (grid0.coords t)) (h2 : ¬isLast (grid0.coords t)) :
    iprop(owns (c : Thread nD τ) arg20 fullShare a ∗ owns (c : Thread nD τ) arg21 fullShare q
        ∗ flyX c X (Ring.sl 8 t.val) (Ring.bk 97 t.val) ∗ flyE c E (Ring.sl 8 t.val) (Ring.bk 97 t.val) ∗ flyL c L (Ring.sl 8 t.val) (Ring.bk 97 t.val)
        ∗ owes (c : Thread nD τ) 0 W
        ∗ (iprop(owns (c : Thread nD τ) arg20 fullShare (accBlock (seen c (srcX (Ring.bk 97 t.val)) X) (seen c (srcE (Ring.bk 97 t.val)) E) (seen c (srcL (Ring.bk 97 t.val)) L) a)
            ∗ owns (c : Thread nD τ) arg21 fullShare (sqBlock (seen c (srcX (Ring.bk 97 t.val)) X) (seen c (srcE (Ring.bk 97 t.val)) E) q)
            ∗ freeX c X (Ring.sl 8 t.val) ∗ freeE c E (Ring.sl 8 t.val) ∗ freeL c L (Ring.sl 8 t.val)
            ∗ (∃ W', owes (c : Thread nD τ) 0 W')) -∗ K ⟨⟩))
      ⊢ wp frame (wpE (defs₀ (F := F)) Variants.none c none) Set.univ (cc0__nfm_kernel (grid0.coords t) hbmX (Memref.isWhole_whole _) hbmE (Memref.isWhole_whole _) hbmL (Memref.isWhole_whole _) arg4 harg4 arg5 harg5 arg6 harg6 arg7 harg7 arg8 harg8 arg9 harg9 arg10 harg10
          ringX (Memref.isWhole_whole _) ringE (Memref.isWhole_whole _) ringL (Memref.isWhole_whole _)
          tailX1 (Memref.isWhole_whole _) tailE1 (Memref.isWhole_whole _) tailL1 (Memref.isWhole_whole _) tailX2 (Memref.isWhole_whole _) tailE2 (Memref.isWhole_whole _) tailL2 (Memref.isWhole_whole _)
          arg20 harg20 arg21 harg21 cc0_scratch11 cc0_scratch12 cc0_scratch13 cc0_scratch14) K := by
  simp only [cc0__nfm_kernel_eq_skeleton]; unfold cc0__nfm_kernel_skel
  simp only [k0_part9_eq_skeleton]
  unfold owns
  iintro ⟨⟨%fa, %hfa, HA⟩, ⟨%fq, %hfq, HQ⟩, ⟨%fX, HfX, HrX⟩, ⟨%fE, HfE, HrE⟩, ⟨%fL, HfL, HrL⟩, HW, Hk⟩
  obtain rfl := harg20.eq_unread hfa; obtain rfl := harg21.eq_unread hfq
  sl_exec (disch := first | sl_exact h0 | sl_exact h1 | sl_exact h2)
  sl_step
  ihave HgX := forget c (slotX (Ring.sl 8 t.val)) $$ HfX_dst
  icases HgX with ⟨%gX, HdX⟩
  ihave HwX := (splitX c X (Ring.sl 8 t.val) (Ring.bk 97 t.val)).2 $$ [HfX_src HrX]
  · isplitl [HfX_src]
    · iexact HfX_src
    · iexact HrX
  ihave HgE := forget c (slotE (Ring.sl 8 t.val)) $$ HfE_dst
  icases HgE with ⟨%gE, HdE⟩
  ihave HwE := (splitE c E (Ring.sl 8 t.val) (Ring.bk 97 t.val)).2 $$ [HfE_src HrE]
  · isplitl [HfE_src]
    · iexact HfE_src
    · iexact HrE
  ihave HgL := forget c (slotL (Ring.sl 8 t.val)) $$ HfL_dst
  icases HgL with ⟨%gL, HdL⟩
  ihave HwL := (splitL c L (Ring.sl 8 t.val) (Ring.bk 97 t.val)).2 $$ [HfL_src HrL]
  · isplitl [HfL_src]
    · iexact HfL_src
    · iexact HrL
  iapply Hk
  isplitl [HA]
  · iexists _; isplitr; swap
    · iexact HA
    · ipureintro
      refine (View.read_writes_full _ _ _ _ _).trans (accBlock_of (loadedX c _ (off8_at t) _ _ _) (loadedE c _ (off9_at t) _ _ _) (loadedL c _ (off10_at t) _ _ _) ?_)
      exact (View.readAt_full _ _ _).trans hfa
  isplitl [HQ]
  · iexists _; isplitr; swap
    · iexact HQ
    · ipureintro
      refine (View.read_writes_full _ _ _ _ _).trans (sqBlock_of (loadedX c _ (off8_at t) _ _ _) (loadedE c _ (off9_at t) _ _ _) ?_)
      exact (View.readAt_full _ _ _).trans hfq
  isplitl [HfX HwX HdX]
  · isplitl [HfX]
    · iexact HfX
    iexists gX; isplitl [HdX]
    · iexact HdX
    · iexact HwX
  isplitl [HfE HwE HdE]
  · isplitl [HfE]
    · iexact HfE
    iexists gE; isplitl [HdE]
    · iexact HdE
    · iexact HwE
  isplitl [HfL HwL HdL]
  · isplitl [HfL]
    · iexact HfL
    iexists gL; isplitl [HdL]
    · iexact HdL
    · iexact HwL
  iexists _; iexact HW

end Cert.Nfm

end
-- ==== Proof.RunLast.lean ====
module

public import proofs.«01_k».proof.Proof.Setup

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (c : Dev nD) (t : Fin cfg0.N)
    (arg4 : Memref sig .tc .vmem S64x64 .f32) (harg4 : arg4.IsWhole) (arg5 : Memref sig .tc .vmem S64 .f32) (harg5 : arg5.IsWhole) (arg6 : Memref sig .tc .vmem S32x64 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1 .f32) (harg9 : arg9.IsWhole) (arg10 : Memref sig .tc .vmem S1024 .f32) (harg10 : arg10.IsWhole)
    (arg20 : Memref sig .tc .vmem S1024x128 .f32) (harg20 : arg20.IsWhole) (arg21 : Memref sig .tc .vmem S1024x64 .f32) (harg21 : arg21.IsWhole)
    (X : Cont (F := F) c hbmX) (E : Cont (F := F) c hbmE) (L : Cont (F := F) c hbmL) (a : Vec F S1024x128 .f32) (q : Vec F S1024x64 .f32) (W : Waits sig Unit)

set_option maxHeartbeats 2000000 in
/-- The last point: the body waits for the last block and both tails, finishes both accumulators and stores the output. -/
theorem runD (K : PUnit → sProp 𝕄) (w1 : Vec F S64x64 .f32) (b1 : Vec F S64 .f32) (w2 : Vec F S32x64 .f32) (b2 : Vec F S32 .f32) (w3 : Vec F S1x32 .f32) (b3 : Vec F S1 .f32)
    (h0 : ¬isFirst (grid0.coords t)) (h1 : ¬isAhead (grid0.coords t)) (h2 : isLast (grid0.coords t)) :
    iprop(owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ (∃ d, owns (c : Thread nD τ) arg10 fullShare d)
        ∗ owns (c : Thread nD τ) arg20 fullShare a ∗ owns (c : Thread nD τ) arg21 fullShare q
        ∗ flyX c X (Ring.sl 8 t.val) (Ring.bk 97 t.val) ∗ flyE c E (Ring.sl 8 t.val) (Ring.bk 97 t.val) ∗ flyL c L (Ring.sl 8 t.val) (Ring.bk 97 t.val)
        ∗ flyP c tailX1 semT0 srcX1 lentT1 X ∗ flyP c tailE1 semT1 srcE1 lentT1 E ∗ flyP c tailL1 semT2 srcL1 lentT1 L ∗ flyP c tailX2 semT3 srcX2 lentT2 X ∗ flyP c tailE2 semT4 srcE2 lentT2 E ∗ flyP c tailL2 semT5 srcL2 lentT2 L
        ∗ owes (c : Thread nD τ) 0 W
        ∗ (iprop(owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare (finish (accTail2 (seen c srcX2 X) (seen c srcE2 E) (seen c srcL2 L) (accTail1 (seen c srcX1 X) (seen c srcE1 E) (seen c srcL1 L) (accBlock (seen c (srcX (Ring.bk 97 t.val)) X) (seen c (srcE (Ring.bk 97 t.val)) E) (seen c (srcL (Ring.bk 97 t.val)) L) a))) (sqTail2 (seen c srcX2 X) (seen c srcE2 E) (sqTail1 (seen c srcX1 X) (seen c srcE1 E) (sqBlock (seen c (srcX (Ring.bk 97 t.val)) X) (seen c (srcE (Ring.bk 97 t.val)) E) q))) w1 b1 w2 b2 w3 b3)
            ∗ (∃ d, owns (c : Thread nD τ) arg20 fullShare d) ∗ (∃ d, owns (c : Thread nD τ) arg21 fullShare d)
            ∗ freeX c X (Ring.sl 8 t.val) ∗ freeE c E (Ring.sl 8 t.val) ∗ freeL c L (Ring.sl 8 t.val)
            ∗ freeP c tailX1 semT0 srcX1 lentT1 X ∗ freeP c tailE1 semT1 srcE1 lentT1 E ∗ freeP c tailL1 semT2 srcL1 lentT1 L ∗ freeP c tailX2 semT3 srcX2 lentT2 X ∗ freeP c tailE2 semT4 srcE2 lentT2 E ∗ freeP c tailL2 semT5 srcL2 lentT2 L
            ∗ (∃ W', owes (c : Thread nD τ) 0 W')) -∗ K ⟨⟩))
      ⊢ wp frame (wpE (defs₀ (F := F)) Variants.none c none) Set.univ (cc0__nfm_kernel (grid0.coords t) hbmX (Memref.isWhole_whole _) hbmE (Memref.isWhole_whole _) hbmL (Memref.isWhole_whole _) arg4 harg4 arg5 harg5 arg6 harg6 arg7 harg7 arg8 harg8 arg9 harg9 arg10 harg10
          ringX (Memref.isWhole_whole _) ringE (Memref.isWhole_whole _) ringL (Memref.isWhole_whole _)
          tailX1 (Memref.isWhole_whole _) tailE1 (Memref.isWhole_whole _) tailL1 (Memref.isWhole_whole _) tailX2 (Memref.isWhole_whole _) tailE2 (Memref.isWhole_whole _) tailL2 (Memref.isWhole_whole _)
          arg20 harg20 arg21 harg21 cc0_scratch11 cc0_scratch12 cc0_scratch13 cc0_scratch14) K := by
  simp only [cc0__nfm_kernel_eq_skeleton]; unfold cc0__nfm_kernel_skel
  simp only [k0_part9_eq_skeleton, k0_part6_eq_skeleton, k0_part7_eq_skeleton, k0_part8_eq_skeleton]
  unfold owns
  iintro ⟨⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%fa, %hfa, HA⟩, ⟨%fq, %hfq, HQ⟩, ⟨%fX, HfX, HrX⟩, ⟨%fE, HfE, HrE⟩, ⟨%fL, HfL, HrL⟩, ⟨%fX1, HfX1, HrX1⟩, ⟨%fE1, HfE1, HrE1⟩, ⟨%fL1, HfL1, HrL1⟩, ⟨%fX2, HfX2, HrX2⟩, ⟨%fE2, HfE2, HrE2⟩, ⟨%fL2, HfL2, HrL2⟩, HW, Hk⟩
  obtain rfl := harg20.eq_unread hfa; obtain rfl := harg21.eq_unread hfq
  obtain rfl := harg4.eq_unread hf4
  obtain rfl := harg5.eq_unread hf5
  obtain rfl := harg6.eq_unread hf6
  obtain rfl := harg7.eq_unread hf7
  obtain rfl := harg8.eq_unread hf8
  obtain rfl := harg9.eq_unread hf9
  sl_exec (disch := first | sl_exact h0 | sl_exact h1 | sl_exact h2)
  sl_step
  ihave HgX := forget c (slotX (Ring.sl 8 t.val)) $$ HfX_dst
  icases HgX with ⟨%gX, HdX⟩
  ihave HwX := (splitX c X (Ring.sl 8 t.val) (Ring.bk 97 t.val)).2 $$ [HfX_src HrX]
  · isplitl [HfX_src]
    · iexact HfX_src
    · iexact HrX
  ihave HgE := forget c (slotE (Ring.sl 8 t.val)) $$ HfE_dst
  icases HgE with ⟨%gE, HdE⟩
  ihave HwE := (splitE c E (Ring.sl 8 t.val) (Ring.bk 97 t.val)).2 $$ [HfE_src HrE]
  · isplitl [HfE_src]
    · iexact HfE_src
    · iexact HrE
  ihave HgL := forget c (slotL (Ring.sl 8 t.val)) $$ HfL_dst
  icases HgL with ⟨%gL, HdL⟩
  ihave HwL := (splitL c L (Ring.sl 8 t.val) (Ring.bk 97 t.val)).2 $$ [HfL_src HrL]
  · isplitl [HfL_src]
    · iexact HfL_src
    · iexact HrL
  iapply Hk
  isplitl [H4]
  · iexists _; isplitr; swap
    · iexact H4
    · ipureintro; exact hf4
  isplitl [H5]
  · iexists _; isplitr; swap
    · iexact H5
    · ipureintro; exact hf5
  isplitl [H6]
  · iexists _; isplitr; swap
    · iexact H6
    · ipureintro; exact hf6
  isplitl [H7]
  · iexists _; isplitr; swap
    · iexact H7
    · ipureintro; exact hf7
  isplitl [H8]
  · iexists _; isplitr; swap
    · iexact H8
    · ipureintro; exact hf8
  isplitl [H9]
  · iexists _; isplitr; swap
    · iexact H9
    · ipureintro; exact hf9
  isplitl [H10]
  · iexists _; isplitr; swap
    · iexact H10
    · ipureintro
      refine (View.read_writes_full _ _ _ _ _).trans ?_
      unfold runD.sl.r_13 runD.sl.r_14
      refine finish_of ?_ ?_ ((View.readAt_full _ _ _).trans hf4) ((View.readAt_full _ _ _).trans hf5) ((View.readAt_full _ _ _).trans hf6) ((View.readAt_full _ _ _).trans hf7) ((View.readAt_full _ _ _).trans hf8) ((View.readAt_full _ _ _).trans hf9)
      · refine (View.readCov_full _ _ _ _ _).trans (accTail2_of ?_ ?_ ?_ ?_)
        · exact View.readCov_full _ _ _ _ _
        · exact View.readCov_full _ _ _ _ _
        · exact View.readCov_full _ _ _ _ _
        refine (View.readCov_full _ _ _ _ _).trans (accTail1_of ?_ ?_ ?_ ?_)
        · exact View.readCov_full _ _ _ _ _
        · exact View.readCov_full _ _ _ _ _
        · exact View.readCov_full _ _ _ _ _
        refine (View.readCov_full _ _ _ _ _).trans (accBlock_of (loadedX c _ (off8_at t) _ _ _) (loadedE c _ (off9_at t) _ _ _) (loadedL c _ (off10_at t) _ _ _) ?_)
        exact (View.readAt_full _ _ _).trans hfa
      · refine (View.readCov_full _ _ _ _ _).trans (sqTail2_of ?_ ?_ ?_)
        · exact View.readCov_full _ _ _ _ _
        · exact View.readCov_full _ _ _ _ _
        refine (View.readCov_full _ _ _ _ _).trans (sqTail1_of ?_ ?_ ?_)
        · exact View.readCov_full _ _ _ _ _
        · exact View.readCov_full _ _ _ _ _
        refine (View.readCov_full _ _ _ _ _).trans (sqBlock_of (loadedX c _ (off8_at t) _ _ _) (loadedE c _ (off9_at t) _ _ _) ?_)
        exact (View.readAt_full _ _ _).trans hfq
  isplitl [HA]
  · iexists _, _; isplitr; swap
    · iexact HA
    · ipureintro; rfl
  isplitl [HQ]
  · iexists _, _; isplitr; swap
    · iexact HQ
    · ipureintro; rfl
  isplitl [HfX HwX HdX]
  · isplitl [HfX]
    · iexact HfX
    iexists gX; isplitl [HdX]
    · iexact HdX
    · iexact HwX
  isplitl [HfE HwE HdE]
  · isplitl [HfE]
    · iexact HfE
    iexists gE; isplitl [HdE]
    · iexact HdE
    · iexact HwE
  isplitl [HfL HwL HdL]
  · isplitl [HfL]
    · iexact HfL
    iexists gL; isplitl [HdL]
    · iexact HdL
    · iexact HwL
  isplitl [HfX1 HfX1_dst HfX1_src HrX1]
  · iapply free_of_landed c tailX1 semT0 srcX1 lentT1 X _
    isplitl [HfX1]; · iexact HfX1
    isplitl [HfX1_dst]; · iexact HfX1_dst
    isplitl [HfX1_src]; · iexact HfX1_src
    iexact HrX1
  isplitl [HfE1 HfE1_dst HfE1_src HrE1]
  · iapply free_of_landed c tailE1 semT1 srcE1 lentT1 E _
    isplitl [HfE1]; · iexact HfE1
    isplitl [HfE1_dst]; · iexact HfE1_dst
    isplitl [HfE1_src]; · iexact HfE1_src
    iexact HrE1
  isplitl [HfL1 HfL1_dst HfL1_src HrL1]
  · iapply free_of_landed c tailL1 semT2 srcL1 lentT1 L _
    isplitl [HfL1]; · iexact HfL1
    isplitl [HfL1_dst]; · iexact HfL1_dst
    isplitl [HfL1_src]; · iexact HfL1_src
    iexact HrL1
  isplitl [HfX2 HfX2_dst HfX2_src HrX2]
  · iapply free_of_landed c tailX2 semT3 srcX2 lentT2 X _
    isplitl [HfX2]; · iexact HfX2
    isplitl [HfX2_dst]; · iexact HfX2_dst
    isplitl [HfX2_src]; · iexact HfX2_src
    iexact HrX2
  isplitl [HfE2 HfE2_dst HfE2_src HrE2]
  · iapply free_of_landed c tailE2 semT4 srcE2 lentT2 E _
    isplitl [HfE2]; · iexact HfE2
    isplitl [HfE2_dst]; · iexact HfE2_dst
    isplitl [HfE2_src]; · iexact HfE2_src
    iexact HrE2
  isplitl [HfL2 HfL2_dst HfL2_src HrL2]
  · iapply free_of_landed c tailL2 semT5 srcL2 lentT2 L _
    isplitl [HfL2]; · iexact HfL2
    isplitl [HfL2_dst]; · iexact HfL2_dst
    isplitl [HfL2_src]; · iexact HfL2_src
    iexact HrL2
  iexists _; iexact HW

end Cert.Nfm

end
-- ==== Proof.Points.lean ====
module

public import proofs.«01_k».proof.Proof.Invariant
public import proofs.«01_k».proof.Proof.RunFirst
public import proofs.«01_k».proof.Proof.RunMid
public import proofs.«01_k».proof.Proof.RunLast

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

section Points
variable (c : Dev nD) (t : Fin cfg0.N) (arg4 : Memref sig .tc .vmem S64x64 .f32) (harg4 : arg4.IsWhole) (arg5 : Memref sig .tc .vmem S64 .f32) (harg5 : arg5.IsWhole) (arg6 : Memref sig .tc .vmem S32x64 .f32) (harg6 : arg6.IsWhole) (arg7 : Memref sig .tc .vmem S32 .f32) (harg7 : arg7.IsWhole) (arg8 : Memref sig .tc .vmem S1x32 .f32) (harg8 : arg8.IsWhole) (arg9 : Memref sig .tc .vmem S1 .f32) (harg9 : arg9.IsWhole) (arg10 : Memref sig .tc .vmem S1024 .f32) (harg10 : arg10.IsWhole)
    (X : Cont (F := F) c hbmX) (E : Cont (F := F) c hbmE) (L : Cont (F := F) c hbmL) (W : Waits sig Unit)

set_option maxHeartbeats 1000000 in
/-- A middle point that starts a block ahead keeps the invariant, -/
theorem pointB (K : PUnit → sProp 𝕄) (hl : 1 ≤ t.val) (hr : t.val < 89) :
    iprop(inv c X E L t.val ∗ owes (c : Thread nD τ) 0 W
        ∗ (iprop(inv c X E L (t.val + 1) ∗ (∃ W', owes (c : Thread nD τ) 0 W')) -∗ K ⟨⟩))
      ⊢ wp frame (wpE (defs₀ (F := F)) Variants.none c none) Set.univ (cc0__nfm_kernel (grid0.coords t) hbmX (Memref.isWhole_whole _) hbmE (Memref.isWhole_whole _) hbmL (Memref.isWhole_whole _) arg4 harg4 arg5 harg5 arg6 harg6 arg7 harg7 arg8 harg8 arg9 harg9 arg10 harg10
          ringX (Memref.isWhole_whole _) ringE (Memref.isWhole_whole _) ringL (Memref.isWhole_whole _)
          tailX1 (Memref.isWhole_whole _) tailE1 (Memref.isWhole_whole _) tailL1 (Memref.isWhole_whole _) tailX2 (Memref.isWhole_whole _) tailE2 (Memref.isWhole_whole _) tailL2 (Memref.isWhole_whole _)
          accM (Memref.isWhole_whole _) sqM (Memref.isWhole_whole _) cc0_scratch11 cc0_scratch12 cc0_scratch13 cc0_scratch14) K := by
  have h0 : ¬isFirst (grid0.coords t) := fun h => absurd ((isFirst_iff t).mp h) (by omega)
  have h2 : ¬isLast (grid0.coords t) := fun h => absurd ((isLast_iff t).mp h) (by omega)
  have h1 : isAhead (grid0.coords t) := (isAhead_iff t).mpr hr
  unfold inv
  rw [ring_take _ _ t.val (by omega) (by omega), ring_take _ _ t.val (by omega) (by omega), ring_take _ _ t.val (by omega) (by omega),
    ring_put _ _ t.val (by omega), ring_put _ _ t.val (by omega), ring_put _ _ t.val (by omega),
    tailsAt_fly _ _ _ _ t.val (by omega), tailsAt_fly _ _ _ _ (t.val + 1) (by omega)]
  iintro ⟨⟨⟨%a, HA, %ha⟩, ⟨%q, HQ, %hq⟩, Hg, ⟨HX, OX⟩, ⟨HE, OE⟩, ⟨HL, OL⟩, HT⟩, HW, Hk⟩
  obtain rfl := ha (by omega)
  obtain rfl := hq (by omega)
  iapply (runB c t arg4 harg4 arg5 harg5 arg6 harg6 arg7 harg7 arg8 harg8 arg9 harg9 arg10 harg10 accM (Memref.isWhole_whole _) sqM (Memref.isWhole_whole _) X E L _ _ W K h0 h1 h2)
  isplitl [HA]; · iexact HA
  isplitl [HQ]; · iexact HQ
  isplitl [HX]; · iexact HX
  isplitl [HE]; · iexact HE
  isplitl [HL]; · iexact HL
  isplitl [HW]; · iexact HW
  iintro ⟨HA, HQ, HX, HE, HL, HW⟩
  iapply Hk
  isplitr [HW]
  swap; · iexact HW
  isplitl [HA]
  · iexists _; isplitl [HA]
    · iexact HA
    · ipureintro; exact fun _ => rfl
  isplitl [HQ]
  · iexists _; isplitl [HQ]
    · iexact HQ
    · ipureintro; exact fun _ => rfl
  isplitl [Hg]; · iexact Hg
  isplitl [HX OX]
  · isplitl [HX]
    · iexact HX
    · iexact OX
  isplitl [HE OE]
  · isplitl [HE]
    · iexact HE
    · iexact OE
  isplitl [HL OL]
  · isplitl [HL]
    · iexact HL
    · iexact OL
  iexact HT

set_option maxHeartbeats 1000000 in
/-- and so does one that starts none. -/
theorem pointC (K : PUnit → sProp 𝕄) (hl : 89 ≤ t.val) (hr : t.val < 96) :
    iprop(inv c X E L t.val ∗ owes (c : Thread nD τ) 0 W
        ∗ (iprop(inv c X E L (t.val + 1) ∗ (∃ W', owes (c : Thread nD τ) 0 W')) -∗ K ⟨⟩))
      ⊢ wp frame (wpE (defs₀ (F := F)) Variants.none c none) Set.univ (cc0__nfm_kernel (grid0.coords t) hbmX (Memref.isWhole_whole _) hbmE (Memref.isWhole_whole _) hbmL (Memref.isWhole_whole _) arg4 harg4 arg5 harg5 arg6 harg6 arg7 harg7 arg8 harg8 arg9 harg9 arg10 harg10
          ringX (Memref.isWhole_whole _) ringE (Memref.isWhole_whole _) ringL (Memref.isWhole_whole _)
          tailX1 (Memref.isWhole_whole _) tailE1 (Memref.isWhole_whole _) tailL1 (Memref.isWhole_whole _) tailX2 (Memref.isWhole_whole _) tailE2 (Memref.isWhole_whole _) tailL2 (Memref.isWhole_whole _)
          accM (Memref.isWhole_whole _) sqM (Memref.isWhole_whole _) cc0_scratch11 cc0_scratch12 cc0_scratch13 cc0_scratch14) K := by
  have h0 : ¬isFirst (grid0.coords t) := fun h => absurd ((isFirst_iff t).mp h) (by omega)
  have h2 : ¬isLast (grid0.coords t) := fun h => absurd ((isLast_iff t).mp h) (by omega)
  have h1 : ¬isAhead (grid0.coords t) := fun h => absurd ((isAhead_iff t).mp h) (by omega)
  unfold inv
  rw [ring_take _ _ t.val (by omega) (by omega), ring_take _ _ t.val (by omega) (by omega), ring_take _ _ t.val (by omega) (by omega),
    ring_leave _ _ t.val (by omega), ring_leave _ _ t.val (by omega), ring_leave _ _ t.val (by omega),
    tailsAt_fly _ _ _ _ t.val (by omega), tailsAt_fly _ _ _ _ (t.val + 1) (by omega)]
  iintro ⟨⟨⟨%a, HA, %ha⟩, ⟨%q, HQ, %hq⟩, Hg, ⟨HX, OX⟩, ⟨HE, OE⟩, ⟨HL, OL⟩, HT⟩, HW, Hk⟩
  obtain rfl := ha (by omega)
  obtain rfl := hq (by omega)
  iapply (runC c t arg4 harg4 arg5 harg5 arg6 harg6 arg7 harg7 arg8 harg8 arg9 harg9 arg10 harg10 accM (Memref.isWhole_whole _) sqM (Memref.isWhole_whole _) X E L _ _ W K h0 h1 h2)
  isplitl [HA]; · iexact HA
  isplitl [HQ]; · iexact HQ
  isplitl [HX]; · iexact HX
  isplitl [HE]; · iexact HE
  isplitl [HL]; · iexact HL
  isplitl [HW]; · iexact HW
  iintro ⟨HA, HQ, HX, HE, HL, HW⟩
  iapply Hk
  isplitr [HW]
  swap; · iexact HW
  isplitl [HA]
  · iexists _; isplitl [HA]
    · iexact HA
    · ipureintro; exact fun _ => rfl
  isplitl [HQ]
  · iexists _; isplitl [HQ]
    · iexact HQ
    · ipureintro; exact fun _ => rfl
  isplitl [Hg]; · iexact Hg
  isplitl [HX OX]
  · isplitl [HX]
    · iexact HX
    · iexact OX
  isplitl [HE OE]
  · isplitl [HE]
    · iexact HE
    · iexact OE
  isplitl [HL OL]
  · isplitl [HL]
    · iexact HL
    · iexact OL
  iexact HT

set_option maxHeartbeats 1000000 in
/-- The last point frees every slot and tail and leaves the output finished. -/
theorem pointD (K : PUnit → sProp 𝕄) (w1 : Vec F S64x64 .f32) (b1 : Vec F S64 .f32) (w2 : Vec F S32x64 .f32) (b2 : Vec F S32 .f32) (w3 : Vec F S1x32 .f32) (b3 : Vec F S1 .f32) (ht : t.val = 96) :
    iprop(inv c X E L t.val ∗ (owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ (∃ d, owns (c : Thread nD τ) arg10 fullShare d)) ∗ owes (c : Thread nD τ) 0 W
        ∗ (iprop(inv c X E L (t.val + 1) ∗ (owns (c : Thread nD τ) arg4 fullShare w1 ∗ owns (c : Thread nD τ) arg5 fullShare b1 ∗ owns (c : Thread nD τ) arg6 fullShare w2 ∗ owns (c : Thread nD τ) arg7 fullShare b2 ∗ owns (c : Thread nD τ) arg8 fullShare w3 ∗ owns (c : Thread nD τ) arg9 fullShare b3 ∗ owns (c : Thread nD τ) arg10 fullShare (finish (accDone c X E L) (sqDone c X E) w1 b1 w2 b2 w3 b3)) ∗ (∃ W', owes (c : Thread nD τ) 0 W')) -∗ K ⟨⟩))
      ⊢ wp frame (wpE (defs₀ (F := F)) Variants.none c none) Set.univ (cc0__nfm_kernel (grid0.coords t) hbmX (Memref.isWhole_whole _) hbmE (Memref.isWhole_whole _) hbmL (Memref.isWhole_whole _) arg4 harg4 arg5 harg5 arg6 harg6 arg7 harg7 arg8 harg8 arg9 harg9 arg10 harg10
          ringX (Memref.isWhole_whole _) ringE (Memref.isWhole_whole _) ringL (Memref.isWhole_whole _)
          tailX1 (Memref.isWhole_whole _) tailE1 (Memref.isWhole_whole _) tailL1 (Memref.isWhole_whole _) tailX2 (Memref.isWhole_whole _) tailE2 (Memref.isWhole_whole _) tailL2 (Memref.isWhole_whole _)
          accM (Memref.isWhole_whole _) sqM (Memref.isWhole_whole _) cc0_scratch11 cc0_scratch12 cc0_scratch13 cc0_scratch14) K := by
  have h0 : ¬isFirst (grid0.coords t) := fun h => absurd ((isFirst_iff t).mp h) (by omega)
  have h1 : ¬isAhead (grid0.coords t) := fun h => absurd ((isAhead_iff t).mp h) (by omega)
  have h2 : isLast (grid0.coords t) := (isLast_iff t).mpr ht
  have e : finish (accDone c X E L) (sqDone c X E) w1 b1 w2 b2 w3 b3 = finish (accTail2 (seen c srcX2 X) (seen c srcE2 E) (seen c srcL2 L) (accTail1 (seen c srcX1 X) (seen c srcE1 E) (seen c srcL1 L) (accBlock (seen c (srcX (Ring.bk 97 t.val)) X) (seen c (srcE (Ring.bk 97 t.val)) E) (seen c (srcL (Ring.bk 97 t.val)) L) (accAt c X E L t.val)))) (sqTail2 (seen c srcX2 X) (seen c srcE2 E) (sqTail1 (seen c srcX1 X) (seen c srcE1 E) (sqBlock (seen c (srcX (Ring.bk 97 t.val)) X) (seen c (srcE (Ring.bk 97 t.val)) E) (sqAt c X E t.val)))) w1 b1 w2 b2 w3 b3 := by
    rw [ht]; rfl
  rw [e]
  unfold inv
  rw [ring_take _ _ t.val (by omega) (by omega), ring_take _ _ t.val (by omega) (by omega), ring_take _ _ t.val (by omega) (by omega),
    ring_leave _ _ t.val (by omega), ring_leave _ _ t.val (by omega), ring_leave _ _ t.val (by omega),
    tailsAt_fly _ _ _ _ t.val (by omega), tailsAt_free _ _ _ _ (t.val + 1) (by omega)]
  unfold tailsFly tailsFree
  iintro ⟨⟨⟨%a, HA, %ha⟩, ⟨%q, HQ, %hq⟩, Hg, ⟨HX, OX⟩, ⟨HE, OE⟩, ⟨HL, OL⟩, HX1, HE1, HL1, HX2, HE2, HL2⟩, ⟨H4, H5, H6, H7, H8, H9, H10⟩, HW, Hk⟩
  obtain rfl := ha (by omega)
  obtain rfl := hq (by omega)
  iapply (runD c t arg4 harg4 arg5 harg5 arg6 harg6 arg7 harg7 arg8 harg8 arg9 harg9 arg10 harg10 accM (Memref.isWhole_whole _) sqM (Memref.isWhole_whole _) X E L _ _ W K w1 b1 w2 b2 w3 b3 h0 h1 h2)
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [HA]; · iexact HA
  isplitl [HQ]; · iexact HQ
  isplitl [HX]; · iexact HX
  isplitl [HE]; · iexact HE
  isplitl [HL]; · iexact HL
  isplitl [HX1]; · iexact HX1
  isplitl [HE1]; · iexact HE1
  isplitl [HL1]; · iexact HL1
  isplitl [HX2]; · iexact HX2
  isplitl [HE2]; · iexact HE2
  isplitl [HL2]; · iexact HL2
  isplitl [HW]; · iexact HW
  iintro ⟨H4, H5, H6, H7, H8, H9, H10, ⟨%a', HA⟩, ⟨%q', HQ⟩, HX, HE, HL, HX1, HE1, HL1, HX2, HE2, HL2, HW⟩
  iapply Hk
  isplitr [H4 H5 H6 H7 H8 H9 H10 HW]
  · isplitl [HA]
    · iexists _; isplitl [HA]
      · iexact HA
      · ipureintro; exact fun h => absurd h.2 (by omega)
    isplitl [HQ]
    · iexists _; isplitl [HQ]
      · iexact HQ
      · ipureintro; exact fun h => absurd h.2 (by omega)
    isplitl [Hg]; · iexact Hg
    isplitl [HX OX]
    · isplitl [HX]
      · iexact HX
      · iexact OX
    isplitl [HE OE]
    · isplitl [HE]
      · iexact HE
      · iexact OE
    isplitl [HL OL]
    · isplitl [HL]
      · iexact HL
      · iexact OL
    isplitl [HX1]; · iexact HX1
    isplitl [HE1]; · iexact HE1
    isplitl [HL1]; · iexact HL1
    isplitl [HX2]; · iexact HX2
    isplitl [HE2]; · iexact HE2
    iexact HL2
  isplitr [HW]
  · isplitl [H4]; · iexact H4
    isplitl [H5]; · iexact H5
    isplitl [H6]; · iexact H6
    isplitl [H7]; · iexact H7
    isplitl [H8]; · iexact H8
    isplitl [H9]; · iexact H9
    iexact H10
  iexact HW

set_option maxHeartbeats 1000000 in
/-- The first point starts every slot and tail, and a block ahead once it freed the first slot. -/
theorem pointA (K : PUnit → sProp 𝕄) (ht : t.val = 0) :
    iprop(inv c X E L t.val ∗ owes (c : Thread nD τ) 0 W
        ∗ (iprop(inv c X E L (t.val + 1) ∗ (∃ W', owes (c : Thread nD τ) 0 W')) -∗ K ⟨⟩))
      ⊢ wp frame (wpE (defs₀ (F := F)) Variants.none c none) Set.univ (cc0__nfm_kernel (grid0.coords t) hbmX (Memref.isWhole_whole _) hbmE (Memref.isWhole_whole _) hbmL (Memref.isWhole_whole _) arg4 harg4 arg5 harg5 arg6 harg6 arg7 harg7 arg8 harg8 arg9 harg9 arg10 harg10
          ringX (Memref.isWhole_whole _) ringE (Memref.isWhole_whole _) ringL (Memref.isWhole_whole _)
          tailX1 (Memref.isWhole_whole _) tailE1 (Memref.isWhole_whole _) tailL1 (Memref.isWhole_whole _) tailX2 (Memref.isWhole_whole _) tailE2 (Memref.isWhole_whole _) tailL2 (Memref.isWhole_whole _)
          accM (Memref.isWhole_whole _) sqM (Memref.isWhole_whole _) cc0_scratch11 cc0_scratch12 cc0_scratch13 cc0_scratch14) K := by
  have h0 : isFirst (grid0.coords t) := (isFirst_iff t).mpr ht
  have h1 : isAhead (grid0.coords t) := (isAhead_iff t).mpr (by omega)
  have h2 : ¬isLast (grid0.coords t) := fun h => absurd ((isLast_iff t).mp h) (by omega)
  have es : Ring.sl 8 t.val = 0 := by rw [ht]; rfl
  have eb : Ring.bk 97 t.val = 0 := by rw [ht]; rfl
  have en : Ring.bk 97 (t.val + 8) = 8 := by rw [ht]; rfl
  have ea : accAt c X E L (t.val + 1) = accBlock (seen c (srcX (Ring.bk 97 t.val)) X) (seen c (srcE (Ring.bk 97 t.val)) E) (seen c (srcL (Ring.bk 97 t.val)) L) k0_pay4 := by rw [ht]; rfl
  have eq : sqAt c X E (t.val + 1) = sqBlock (seen c (srcX (Ring.bk 97 t.val)) X) (seen c (srcE (Ring.bk 97 t.val)) E) k0_pay5 := by rw [ht]; rfl
  have run := runA c t arg4 harg4 arg5 harg5 arg6 harg6 arg7 harg7 arg8 harg8 arg9 harg9 arg10 harg10 accM (Memref.isWhole_whole _) sqM (Memref.isWhole_whole _) X E L W K h0 h1 h2
  rw [es, eb, en] at run
  rw [eb] at ea eq
  unfold inv
  rw [tailsAt_free _ _ _ _ t.val (by omega), tailsAt_fly _ _ _ _ (t.val + 1) (by omega), ea, eq, ht]
  rw [ring_start, ring_start, ring_start, show 0 + 1 = 1 from rfl, ring_one, ring_one, ring_one]
  iintro ⟨⟨⟨%a, HA, -⟩, ⟨%q, HQ, -⟩, Hg, HX, HE, HL, HT⟩, HW, Hk⟩
  ihave HX := readyX c X $$ HX
  icases HX with ⟨HX0, HX1, HX2, HX3, HX4, HX5, HX6, HX7⟩
  ihave HE := readyE c E $$ HE
  icases HE with ⟨HE0, HE1, HE2, HE3, HE4, HE5, HE6, HE7⟩
  ihave HL := readyL c L $$ HL
  icases HL with ⟨HL0, HL1, HL2, HL3, HL4, HL5, HL6, HL7⟩
  ihave HT := ready_tails c X E L $$ HT
  icases HT with ⟨TX1, TE1, TL1, TX2, TE2, TL2⟩
  iapply run
  isplitl [HA]; · iexists a; iexact HA
  isplitl [HQ]; · iexists q; iexact HQ
  isplitl [HX0]; · iexact HX0
  isplitl [HE0]; · iexact HE0
  isplitl [HL0]; · iexact HL0
  isplitl [HX1]; · iexact HX1
  isplitl [HX2]; · iexact HX2
  isplitl [HX3]; · iexact HX3
  isplitl [HX4]; · iexact HX4
  isplitl [HX5]; · iexact HX5
  isplitl [HX6]; · iexact HX6
  isplitl [HX7]; · iexact HX7
  isplitl [HE1]; · iexact HE1
  isplitl [HE2]; · iexact HE2
  isplitl [HE3]; · iexact HE3
  isplitl [HE4]; · iexact HE4
  isplitl [HE5]; · iexact HE5
  isplitl [HE6]; · iexact HE6
  isplitl [HE7]; · iexact HE7
  isplitl [HL1]; · iexact HL1
  isplitl [HL2]; · iexact HL2
  isplitl [HL3]; · iexact HL3
  isplitl [HL4]; · iexact HL4
  isplitl [HL5]; · iexact HL5
  isplitl [HL6]; · iexact HL6
  isplitl [HL7]; · iexact HL7
  isplitl [TX1]; · iexact TX1
  isplitl [TE1]; · iexact TE1
  isplitl [TL1]; · iexact TL1
  isplitl [TX2]; · iexact TX2
  isplitl [TE2]; · iexact TE2
  isplitl [TL2]; · iexact TL2
  isplitl [HW]; · iexact HW
  iintro ⟨HA, HQ, HX0, HE0, HL0, HX1, HX2, HX3, HX4, HX5, HX6, HX7, HE1, HE2, HE3, HE4, HE5, HE6, HE7, HL1, HL2, HL3, HL4, HL5, HL6, HL7, TX1, TE1, TL1, TX2, TE2, TL2, HW⟩
  iapply Hk
  isplitr [HW]
  swap; · iexact HW
  isplitl [HA]
  · iexists _; isplitl [HA]
    · iexact HA
    · ipureintro; exact fun _ => rfl
  isplitl [HQ]
  · iexists _; isplitl [HQ]
    · iexact HQ
    · ipureintro; exact fun _ => rfl
  isplitl [Hg]; · iexact Hg
  isplitl [HX0 HX1 HX2 HX3 HX4 HX5 HX6 HX7]
  · isplitl [HX0]; · iexact HX0
    isplitl [HX1]; · iexact HX1
    isplitl [HX2]; · iexact HX2
    isplitl [HX3]; · iexact HX3
    isplitl [HX4]; · iexact HX4
    isplitl [HX5]; · iexact HX5
    isplitl [HX6]; · iexact HX6
    iexact HX7
  isplitl [HE0 HE1 HE2 HE3 HE4 HE5 HE6 HE7]
  · isplitl [HE0]; · iexact HE0
    isplitl [HE1]; · iexact HE1
    isplitl [HE2]; · iexact HE2
    isplitl [HE3]; · iexact HE3
    isplitl [HE4]; · iexact HE4
    isplitl [HE5]; · iexact HE5
    isplitl [HE6]; · iexact HE6
    iexact HE7
  isplitl [HL0 HL1 HL2 HL3 HL4 HL5 HL6 HL7]
  · isplitl [HL0]; · iexact HL0
    isplitl [HL1]; · iexact HL1
    isplitl [HL2]; · iexact HL2
    isplitl [HL3]; · iexact HL3
    isplitl [HL4]; · iexact HL4
    isplitl [HL5]; · iexact HL5
    isplitl [HL6]; · iexact HL6
    iexact HL7
  unfold tailsFly
  isplitl [TX1]; · iexact TX1
  isplitl [TE1]; · iexact TE1
  isplitl [TL1]; · iexact TL1
  isplitl [TX2]; · iexact TX2
  isplitl [TE2]; · iexact TE2
  iexact TL2
end Points

end Cert.Nfm

end
-- ==== Proof.Body.lean ====
module

public import proofs.«01_k».proof.Proof.Points

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- What the kernel stores at its last point: the finished rows, of the operands as the region finds them. -/
def outVal (c : Dev nD) (t : Fin cfg0.N) : Vec F S1024 .f32 :=
  finish (accDone c (V m c main_arg0) (V m c main_arg2) (V m c main_v7)) (sqDone c (V m c main_arg0) (V m c main_arg2)) (iblk m c 0 t) (iblk m c 1 t) (iblk m c 2 t) (iblk m c 3 t) (iblk m c 4 t) (iblk m c 5 t)

/-- The proof data of the pipeline on core `c`: the arrays as the region finds them, each input's buffer at its
    block, the output's at the finished rows, and the invariant between points. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outVal m c t
  Φ t := inv c (V m c main_arg0) (V m c main_arg2) (V m c main_v7) t.val
  q _ := fullShare
  owed _ := 0

theorem A_eq (c : Dev nD) (w : Fin cfg0.W) : (dats m 0 c).A w = V m c (Pipeline.arrRef spec0 w) := by
  dsimp only [dats]
theorem inv_castSucc (c : Dev nD) (t : Fin cfg0.N) : (dats m 0 c).Φ t.castSucc = inv c (V m c main_arg0) (V m c main_arg2) (V m c main_v7) t.val := by
  dsimp only [dats]; simp only [Fin.coe_castSucc]
theorem inv_succ (c : Dev nD) (t : Fin cfg0.N) : (dats m 0 c).Φ t.succ = inv c (V m c main_arg0) (V m c main_arg2) (V m c main_v7) (t.val + 1) := by
  dsimp only [dats]; simp only [Fin.val_succ]
theorem after0 (c : Dev nD) (t : Fin cfg0.N) : (dats m 0 c).after 0 t = iblk m c 0 t := by dsimp only [dats]
/-- Input 0's buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem leaves0 (c : Dev nD) (t : Fin cfg0.N) : (dats m 0 c).leavesExact 0 t = owns (c : Thread nD τ) (st0_0 t) fullShare (iblk m c 0 t) := by
  have e : (dats m 0 c).leavesExact 0 t = owns (c : Thread nD τ) (st0_0 t) fullShare ((dats m 0 c).after 0 t) := by
    unfold Dat.leavesExact; rw [show cfg0.idle 0 (grid0.coords t) = false from rfl]
  rw [e, after0]
theorem after1 (c : Dev nD) (t : Fin cfg0.N) : (dats m 0 c).after 1 t = iblk m c 1 t := by dsimp only [dats]
/-- Input 1's buffer holds its block at every point, fetched there or not. -/
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem leaves1 (c : Dev nD) (t : Fin cfg0.N) : (dats m 0 c).leavesExact 1 t = owns (c : Thread nD τ) (st0_1 t) fullShare (iblk m c 1 t) := by
  have e : (dats m 0 c).leavesExact 1 t = owns (c : Thread nD τ) (st0_1 t) fullShare ((dats m 0 c).after 1 t) := by
    unfold Dat.leavesExact; rw [show cfg0.idle 1 (grid0.coords t) = false from rfl]
  rw [e, after1]
theorem after2 (c : Dev nD) (t : Fin cfg0.N) : (dats m 0 c).after 2 t = iblk m c 2 t := by dsimp only [dats]
/-- Input 2's buffer holds its block at every point, fetched there or not. -/
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem leaves2 (c : Dev nD) (t : Fin cfg0.N) : (dats m 0 c).leavesExact 2 t = owns (c : Thread nD τ) (st0_2 t) fullShare (iblk m c 2 t) := by
  have e : (dats m 0 c).leavesExact 2 t = owns (c : Thread nD τ) (st0_2 t) fullShare ((dats m 0 c).after 2 t) := by
    unfold Dat.leavesExact; rw [show cfg0.idle 2 (grid0.coords t) = false from rfl]
  rw [e, after2]
theorem after3 (c : Dev nD) (t : Fin cfg0.N) : (dats m 0 c).after 3 t = iblk m c 3 t := by dsimp only [dats]
/-- Input 3's buffer holds its block at every point, fetched there or not. -/
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem leaves3 (c : Dev nD) (t : Fin cfg0.N) : (dats m 0 c).leavesExact 3 t = owns (c : Thread nD τ) (st0_3 t) fullShare (iblk m c 3 t) := by
  have e : (dats m 0 c).leavesExact 3 t = owns (c : Thread nD τ) (st0_3 t) fullShare ((dats m 0 c).after 3 t) := by
    unfold Dat.leavesExact; rw [show cfg0.idle 3 (grid0.coords t) = false from rfl]
  rw [e, after3]
theorem after4 (c : Dev nD) (t : Fin cfg0.N) : (dats m 0 c).after 4 t = iblk m c 4 t := by dsimp only [dats]
/-- Input 4's buffer holds its block at every point, fetched there or not. -/
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem leaves4 (c : Dev nD) (t : Fin cfg0.N) : (dats m 0 c).leavesExact 4 t = owns (c : Thread nD τ) (st0_4 t) fullShare (iblk m c 4 t) := by
  have e : (dats m 0 c).leavesExact 4 t = owns (c : Thread nD τ) (st0_4 t) fullShare ((dats m 0 c).after 4 t) := by
    unfold Dat.leavesExact; rw [show cfg0.idle 4 (grid0.coords t) = false from rfl]
  rw [e, after4]
theorem after5 (c : Dev nD) (t : Fin cfg0.N) : (dats m 0 c).after 5 t = iblk m c 5 t := by dsimp only [dats]
/-- Input 5's buffer holds its block at every point, fetched there or not. -/
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem leaves5 (c : Dev nD) (t : Fin cfg0.N) : (dats m 0 c).leavesExact 5 t = owns (c : Thread nD τ) (st0_5 t) fullShare (iblk m c 5 t) := by
  have e : (dats m 0 c).leavesExact 5 t = owns (c : Thread nD τ) (st0_5 t) fullShare ((dats m 0 c).after 5 t) := by
    unfold Dat.leavesExact; rw [show cfg0.idle 5 (grid0.coords t) = false from rfl]
  rw [e, after5]
theorem after6 (c : Dev nD) (t : Fin cfg0.N) : (dats m 0 c).after 6 t = outVal m c t := by dsimp only [dats]
theorem leaves6 (c : Dev nD) (t : Fin cfg0.N) (ht : t.val = 96) : (dats m 0 c).leavesExact 6 t = owns (c : Thread nD τ) (st0_6 t) fullShare (outVal m c t) := by
  have e : (dats m 0 c).leavesExact 6 t = owns (c : Thread nD τ) (st0_6 t) fullShare ((dats m 0 c).after 6 t) := by
    unfold Dat.leavesExact; rw [live_last t ht]
  rw [e, after6]

/-- What the pipeline hands the body at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))
/-- and what the body gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body's triple at any point. -/
theorem sound_body (c : Dev nD) (t : Fin cfg0.N) :
    bodyPre m c t ⊢ wp frame (wpE (defs₀ (F := F)) Variants.none c none) Set.univ (bodyAt0 t) (fun _ => bodyPost m c t) := by
  have hN : t.val < 97 := lt_of_lt_of_eq t.isLt N_0
  unfold bodyPre bodyPost bodyAt0
  simp only [before0, before1, before2, before3, before4, before5]
  rw [inv_castSucc, inv_succ, leaves0, leaves1, leaves2, leaves3, leaves4, leaves5]
  unfold Dat.owesAt Pipeline.owesWithin
  rw [show (dats m 0 c).owed t.castSucc = 0 from rfl, show (dats m 0 c).owed t.succ = 0 from rfl]
  by_cases ht : t.val = 96
  · rw [leaves6 m c t ht]
    iintro ⟨HP, ⟨%W', -, HW⟩, ⟨%d0, H0⟩, ⟨%d1, H1⟩, ⟨%d2, H2⟩, ⟨%d3, H3⟩, ⟨%d4, H4⟩, ⟨%d5, H5⟩, ⟨%d6, H6⟩⟩
    iapply (pointD c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (V m c main_arg0) (V m c main_arg2) (V m c main_v7) W' _ (iblk m c 0 t) (iblk m c 1 t) (iblk m c 2 t) (iblk m c 3 t) (iblk m c 4 t) (iblk m c 5 t) ht)
    isplitl [HP]; · iexact HP
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexists _; iexact H6
    isplitl [HW]; · iexact HW
    iintro ⟨HP, ⟨H0, H1, H2, H3, H4, H5, H6⟩, HW⟩
    isplitl [HP]; · iexact HP
    isplitl [HW]
    · icases HW with ⟨%W'', HW⟩
      iexists W''
      isplitr
      swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    iexact H6
  rw [Dat.leavesExact_idle (dats m 0 c) 6 t (idle_before_last t ht) (noFlush_before_last t ht)]
  iintro ⟨HP, ⟨%W', -, HW⟩, ⟨%d0, H0⟩, ⟨%d1, H1⟩, ⟨%d2, H2⟩, ⟨%d3, H3⟩, ⟨%d4, H4⟩, ⟨%d5, H5⟩, ⟨%d6, H6⟩⟩
  by_cases h0 : t.val = 0
  · iapply (pointA c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (V m c main_arg0) (V m c main_arg2) (V m c main_v7) W' _ h0)
    isplitl [HP]; · iexact HP
    isplitl [HW]; · iexact HW
    iintro ⟨HP, HW⟩
    isplitl [HP]; · iexact HP
    isplitl [HW]
    · icases HW with ⟨%W'', HW⟩
      iexists W''
      isplitr
      swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    iexists _; iexact H6
  by_cases h1 : t.val < 89
  · iapply (pointB c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (V m c main_arg0) (V m c main_arg2) (V m c main_v7) W' _ (by omega) h1)
    isplitl [HP]; · iexact HP
    isplitl [HW]; · iexact HW
    iintro ⟨HP, HW⟩
    isplitl [HP]; · iexact HP
    isplitl [HW]
    · icases HW with ⟨%W'', HW⟩
      iexists W''
      isplitr
      swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    iexists _; iexact H6
  · iapply (pointC c t (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (V m c main_arg0) (V m c main_arg2) (V m c main_v7) W' _ (by omega) (by omega))
    isplitl [HP]; · iexact HP
    isplitl [HW]; · iexact HW
    iintro ⟨HP, HW⟩
    isplitl [HP]; · iexact HP
    isplitl [HW]
    · icases HW with ⟨%W'', HW⟩
      iexists W''
      isplitr
      swap; · iexact HW
      ipureintro; exact fun _ _ => Or.inl trivial
    isplitl [H0]; · iexact H0
    isplitl [H1]; · iexact H1
    isplitl [H2]; · iexact H2
    isplitl [H3]; · iexact H3
    isplitl [H4]; · iexact H4
    isplitl [H5]; · iexact H5
    iexists _; iexact H6

theorem defs₀_row (t : Fin cfg0.N) : (defs₀ (F := F)) .tc cfg0.body (cfg0.bodyArgs t (cfg0.slots t)) = bodyAt0 t := by
  unfold defs₀; rw [Defs.onTc_tc]
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

end Cert.Nfm

end
-- ==== Proof.InOut.lean ====
module

public import proofs.«01_k».proof.Proof.RingState

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The launch's buffers as the rings' pieces -/

section Generic
variable (c : Dev nD) {S SH : Shape} {e : EltTy} (D : Fin 8 → Memref sig .tc .vmem S e) (k : Fin 8 → SemLoc sig) (H : Memref sig .tc .hbm SH e) (W : Cont (F := F) c H)

/-- One slot free: its cell at zero, its buffer at anything, its copy of the operand. -/
abbrev freeSlot (s : Fin 8) : sProp 𝕄 := iprop(zeroP c (k s) ∗ ∃ f, dstP (F := F) c (D s) f ∗ wholeP c H (lent s) W)

/-- The operand whole is the eight slots' copies and the two tails'. -/
theorem lend_all : wholeP c H fullShare W ⊣⊢ iprop(bigSep Finset.univ (fun s : Fin 8 => wholeP c H (lent s) W) ∗ wholeP c H lentT1 W ∗ wholeP c H lentT2 W) := by
  rw [Ring.bigSep_fin_eq_range 8 (fun s : Fin 8 => wholeP c H (lent s) W) (fun s => wholeP c H (spine s).left W) (fun _ _ => rfl)]
  refine (spine_range c H W 8).trans ⟨?_, ?_⟩
  · iintro ⟨Hs, Hw⟩
    ihave Hw := (halve c H W (spine 8)).1 $$ Hw
    isplitl [Hs]
    · iexact Hs
    · iexact Hw
  · iintro ⟨Hs, Hw⟩
    isplitl [Hs]
    · iexact Hs
    iapply (halve c H W (spine 8)).2
    iexact Hw

/-- The slots' buffers, cells and copies together are the slots free. -/
theorem free_all :
    iprop(bigSep Finset.univ (fun s : Fin 8 => zeroP (F := F) c (k s)) ∗ bigSep Finset.univ (fun s : Fin 8 => iprop(∃ f, dstP (F := F) c (D s) f)) ∗ bigSep Finset.univ (fun s : Fin 8 => wholeP c H (lent s) W))
      ⊣⊢ bigSep Finset.univ (freeSlot c D k H W) := by
  have e1 : iprop(bigSep Finset.univ (fun s : Fin 8 => iprop(∃ f, dstP (F := F) c (D s) f)) ∗ bigSep Finset.univ (fun s : Fin 8 => wholeP c H (lent s) W))
      = bigSep Finset.univ (fun s : Fin 8 => iprop((∃ f, dstP (F := F) c (D s) f) ∗ wholeP c H (lent s) W)) := (BI.bigSep_sep _ _ _).symm
  have e2 : iprop(bigSep Finset.univ (fun s : Fin 8 => zeroP (F := F) c (k s)) ∗ bigSep Finset.univ (fun s : Fin 8 => iprop((∃ f, dstP (F := F) c (D s) f) ∗ wholeP c H (lent s) W)))
      = bigSep Finset.univ (fun s : Fin 8 => iprop(zeroP (F := F) c (k s) ∗ ((∃ f, dstP (F := F) c (D s) f) ∗ wholeP c H (lent s) W))) := (BI.bigSep_sep _ _ _).symm
  rw [e1, e2]
  refine ⟨bigSep_mono fun s _ => ?_, bigSep_mono fun s _ => ?_⟩
  · show iprop(zeroP (F := F) c (k s) ∗ (∃ f, dstP (F := F) c (D s) f) ∗ wholeP c H (lent s) W) ⊢ iprop(zeroP c (k s) ∗ ∃ f, dstP (F := F) c (D s) f ∗ wholeP c H (lent s) W)
    iintro ⟨Hz, ⟨%f, Hd⟩, Hw⟩
    isplitl [Hz]
    · iexact Hz
    iexists f; isplitl [Hd]
    · iexact Hd
    · iexact Hw
  · show iprop(zeroP c (k s) ∗ ∃ f, dstP (F := F) c (D s) f ∗ wholeP c H (lent s) W) ⊢ iprop(zeroP (F := F) c (k s) ∗ (∃ f, dstP (F := F) c (D s) f) ∗ wholeP c H (lent s) W)
    iintro ⟨Hz, %f, Hd, Hw⟩
    isplitl [Hz]
    · iexact Hz
    isplitl [Hd]
    · iexists f; iexact Hd
    · iexact Hw

/-- Into a ring: the slots' buffers, the eight cells at zero and the operand whole are the ring before its first point and the tails' copies. -/
theorem ring_in :
    iprop(bigSep Finset.univ (fun s : Fin 8 => iprop(∃ f, dstP (F := F) c (D s) f))
        ∗ (zeroP (F := F) c (k 0) ∗ zeroP c (k 1) ∗ zeroP c (k 2) ∗ zeroP c (k 3) ∗ zeroP c (k 4) ∗ zeroP c (k 5) ∗ zeroP c (k 6) ∗ zeroP c (k 7)) ∗ wholeP c H fullShare W)
      ⊢ iprop(bigSep Finset.univ (freeSlot c D k H W) ∗ wholeP c H lentT1 W ∗ wholeP c H lentT2 W) := by
  iintro ⟨Hd, Hz, Hw⟩
  ihave Hw := (lend_all c H W).1 $$ Hw
  icases Hw with ⟨Hs, Ht⟩
  isplitl [Hd Hz Hs]
  · iapply (free_all c D k H W).1
    isplitl [Hz]
    · rw [slots_list]; iexact Hz
    isplitl [Hd]
    · iexact Hd
    · iexact Hs
  · iexact Ht
/-- Out of a ring: the same pieces again. -/
theorem ring_out :
    iprop(bigSep Finset.univ (freeSlot c D k H W) ∗ wholeP c H lentT1 W ∗ wholeP c H lentT2 W)
      ⊢ iprop(bigSep Finset.univ (fun s : Fin 8 => iprop(∃ f, dstP (F := F) c (D s) f))
        ∗ (zeroP (F := F) c (k 0) ∗ zeroP c (k 1) ∗ zeroP c (k 2) ∗ zeroP c (k 3) ∗ zeroP c (k 4) ∗ zeroP c (k 5) ∗ zeroP c (k 6) ∗ zeroP c (k 7)) ∗ wholeP c H fullShare W) := by
  iintro ⟨Hf, Ht⟩
  ihave Hf := (free_all c D k H W).2 $$ Hf
  icases Hf with ⟨Hz, Hd, Hs⟩
  isplitl [Hd]
  · iexact Hd
  isplitl [Hz]
  · rw [← slots_list (fun s : Fin 8 => zeroP (F := F) c (k s))]; iexact Hz
  iapply (lend_all c H W).2
  isplitl [Hs]
  · iexact Hs
  · iexact Ht
end Generic

/-! ## A ring buffer is its eight slots -/

section Slots
variable (c : Dev nD)
abbrev setX (s : Fin 8) : Finset S8x1024x1024.Idx := (Rect.unit (s := S8x1024x1024) ![s.val, 0, 0] S1x1024x1024.size (inb_slotX s)).set
abbrev setE (s : Fin 8) : Finset S8x1024x64.Idx := (Rect.unit (s := S8x1024x64) ![s.val, 0, 0] S1x1024x64.size (inb_slotE s)).set
abbrev setL (s : Fin 8) : Finset S8x1024x2.Idx := (Rect.unit (s := S8x1024x2) ![s.val, 0, 0] S1x1024x2.size (inb_slotL s)).set
theorem setX_eq (s : Fin 8) : (slotX s).view.set = setX s := by
  simp only [slotX, Memref.view_squeeze, View.set_reshape]; exact View.set_slice_whole _ _
theorem setE_eq (s : Fin 8) : (slotE s).view.set = setE s := by
  simp only [slotE, Memref.view_squeeze, View.set_reshape]; exact View.set_slice_whole _ _
theorem setL_eq (s : Fin 8) : (slotL s).view.set = setL s := by
  simp only [slotL, Memref.view_squeeze, View.set_reshape]; exact View.set_slice_whole _ _
theorem dstX_eq (s : Fin 8) (f) : dstP (F := F) c (slotX s) f = (((c : Thread nD τ).loc cc0_scratch0) ↦[setX s]{fullShare} f : sProp 𝕄) := by
  unfold dstP; rw [setX_eq]; rfl
theorem dstE_eq (s : Fin 8) (f) : dstP (F := F) c (slotE s) f = (((c : Thread nD τ).loc cc0_scratch1) ↦[setE s]{fullShare} f : sProp 𝕄) := by
  unfold dstP; rw [setE_eq]; rfl
theorem dstL_eq (s : Fin 8) (f) : dstP (F := F) c (slotL s) f = (((c : Thread nD τ).loc cc0_scratch2) ↦[setL s]{fullShare} f : sProp 𝕄) := by
  unfold dstP; rw [setL_eq]; rfl
/-- The slots are disjoint and cover their buffer. -/
theorem disjX (s s' : Fin 8) (h : s ≠ s') : Disjoint (setX s) (setX s') :=
  Ring.lead_disjoint (s := S8x1024x1024) (0 : Fin 3) 1 (fun s : Fin 8 => (![s.val, 0, 0] : Fin 3 → Nat)) S1x1024x1024.size inb_slotX (fun s => by simp) rfl s s' h
theorem disjE (s s' : Fin 8) (h : s ≠ s') : Disjoint (setE s) (setE s') :=
  Ring.lead_disjoint (s := S8x1024x64) (0 : Fin 3) 1 (fun s : Fin 8 => (![s.val, 0, 0] : Fin 3 → Nat)) S1x1024x64.size inb_slotE (fun s => by simp) rfl s s' h
theorem disjL (s s' : Fin 8) (h : s ≠ s') : Disjoint (setL s) (setL s') :=
  Ring.lead_disjoint (s := S8x1024x2) (0 : Fin 3) 1 (fun s : Fin 8 => (![s.val, 0, 0] : Fin 3 → Nat)) S1x1024x2.size inb_slotL (fun s => by simp) rfl s s' h
theorem coverX : Finset.univ.biUnion setX = Finset.univ :=
  Ring.lead_cover (s := S8x1024x1024) (0 : Fin 3) 1 (fun s : Fin 8 => (![s.val, 0, 0] : Fin 3 → Nat)) S1x1024x1024.size inb_slotX (fun s => by simp)
    (fun s a ha => by fin_cases a <;> first | exact absurd rfl ha | rfl) rfl (fun a ha => by fin_cases a <;> first | exact absurd rfl ha | rfl) rfl
theorem coverE : Finset.univ.biUnion setE = Finset.univ :=
  Ring.lead_cover (s := S8x1024x64) (0 : Fin 3) 1 (fun s : Fin 8 => (![s.val, 0, 0] : Fin 3 → Nat)) S1x1024x64.size inb_slotE (fun s => by simp)
    (fun s a ha => by fin_cases a <;> first | exact absurd rfl ha | rfl) rfl (fun a ha => by fin_cases a <;> first | exact absurd rfl ha | rfl) rfl
theorem coverL : Finset.univ.biUnion setL = Finset.univ :=
  Ring.lead_cover (s := S8x1024x2) (0 : Fin 3) 1 (fun s : Fin 8 => (![s.val, 0, 0] : Fin 3 → Nat)) S1x1024x2.size inb_slotL (fun s => by simp)
    (fun s a ha => by fin_cases a <;> first | exact absurd rfl ha | rfl) rfl (fun a ha => by fin_cases a <;> first | exact absurd rfl ha | rfl) rfl

/-- A buffer at some contents is each of the sets that cut it up at some contents. -/
theorem cut {ℓ : Loc nD τ sig} (J : Fin 8 → Finset (Idx ℓ)) (hd : ∀ s s', s ≠ s' → Disjoint (J s) (J s')) (hc : Finset.univ.biUnion J = Finset.univ)
    (P : (s : Fin 8) → Buf (Elt F) ℓ → sProp 𝕄) (hP : ∀ s f, P s f = (ℓ ↦[J s]{fullShare} f : sProp 𝕄)) :
    iprop(∃ f, ℓ ↦{fullShare} f) ⊣⊢ bigSep Finset.univ (fun s : Fin 8 => iprop(∃ f, P s f)) := by
  rw [bigSep_univ_eq_bigSepL [0, 1, 2, 3, 4, 5, 6, 7] (by decide) (by decide)]
  exact ⟨Ring.slots_split_n J hd hc _ (by decide) (by decide) P hP, Ring.slots_join_n J hd hc _ (by decide) (by decide) P hP⟩
set_option maxHeartbeats 1000000 in
theorem cutX : iprop(∃ f : Buf (Elt F) ((c : Thread nD τ).loc cc0_scratch0), ((c : Thread nD τ).loc cc0_scratch0) ↦{fullShare} f) ⊣⊢ (bigSep Finset.univ (fun s : Fin 8 => iprop(∃ f, dstP (F := F) c (slotX s) f)) : sProp 𝕄) :=
  cut (ℓ := (c : Thread nD τ).loc cc0_scratch0) setX disjX coverX (fun s f => dstP (F := F) c (slotX s) f) (dstX_eq c)
set_option maxHeartbeats 1000000 in
theorem cutE : iprop(∃ f : Buf (Elt F) ((c : Thread nD τ).loc cc0_scratch1), ((c : Thread nD τ).loc cc0_scratch1) ↦{fullShare} f) ⊣⊢ (bigSep Finset.univ (fun s : Fin 8 => iprop(∃ f, dstP (F := F) c (slotE s) f)) : sProp 𝕄) :=
  cut (ℓ := (c : Thread nD τ).loc cc0_scratch1) setE disjE coverE (fun s f => dstP (F := F) c (slotE s) f) (dstE_eq c)
set_option maxHeartbeats 1000000 in
theorem cutL : iprop(∃ f : Buf (Elt F) ((c : Thread nD τ).loc cc0_scratch2), ((c : Thread nD τ).loc cc0_scratch2) ↦{fullShare} f) ⊣⊢ (bigSep Finset.univ (fun s : Fin 8 => iprop(∃ f, dstP (F := F) c (slotL s) f)) : sProp 𝕄) :=
  cut (ℓ := (c : Thread nD τ).loc cc0_scratch2) setL disjL coverL (fun s f => dstP (F := F) c (slotL s) f) (dstL_eq c)
end Slots

/-! ## What the launch hands the region -/

section Given
/-- The semaphores the body uses itself: three rings of eight cells, six cells for the tails. -/
def cellList : Fin 30 → SemLoc sig := fun j => SemLoc.dma ⟨7 + j.val, by have := j.isLt; show 7 + j.val < 37; omega⟩
theorem cellFacts : Pipeline.OwnSemFacts spec0 cellList := by decide
/-- The operands the body copies into scratch itself. -/
def operands : Finset (Ref sig .tc) := {main_arg0, main_arg2, main_v7}
theorem operands_sub : operands ⊆ Pipeline.restRefs sig spec0 := by decide
variable (V : (c : Dev nD) → (b : Ref sig .tc) → Buf (Elt F) ((c : Thread nD τ).loc b)) (c : Dev nD)

theorem operands_eq : (bigSep operands (fun b => ((c : Thread nD τ).loc b) ↦{fullShare} V c b) : sProp 𝕄)
    = iprop(wholeP c hbmX fullShare (V c main_arg0) ∗ wholeP c hbmE fullShare (V c main_arg2) ∗ wholeP c hbmL fullShare (V c main_v7)) := by
  rw [BI.bigSep_eq_bigSepL_of_eq [main_arg0, main_arg2, main_v7] (by decide) (by decide)]; rfl
theorem cells_eq : (Pipeline.ownSems0 (Ix := Unit) (Name := ℕ) (U := Pipeline.UD sig nD τ) (Lvl := ℕ) (Val := Elt F) (τ := τ) cellList c : sProp 𝕄)
    = iprop(zeroP (F := F) c (semX 0) ∗ zeroP (F := F) c (semX 1) ∗ zeroP (F := F) c (semX 2) ∗ zeroP (F := F) c (semX 3) ∗ zeroP (F := F) c (semX 4) ∗ zeroP (F := F) c (semX 5) ∗ zeroP (F := F) c (semX 6) ∗ zeroP (F := F) c (semX 7) ∗ zeroP (F := F) c (semE 0) ∗ zeroP (F := F) c (semE 1) ∗ zeroP (F := F) c (semE 2) ∗ zeroP (F := F) c (semE 3) ∗ zeroP (F := F) c (semE 4) ∗ zeroP (F := F) c (semE 5) ∗ zeroP (F := F) c (semE 6) ∗ zeroP (F := F) c (semE 7) ∗ zeroP (F := F) c (semL 0) ∗ zeroP (F := F) c (semL 1) ∗ zeroP (F := F) c (semL 2) ∗ zeroP (F := F) c (semL 3) ∗ zeroP (F := F) c (semL 4) ∗ zeroP (F := F) c (semL 5) ∗ zeroP (F := F) c (semL 6) ∗ zeroP (F := F) c (semL 7) ∗ zeroP (F := F) c (semT0) ∗ zeroP (F := F) c (semT1) ∗ zeroP (F := F) c (semT2) ∗ zeroP (F := F) c (semT3) ∗ zeroP (F := F) c (semT4) ∗ zeroP (F := F) c (semT5)) := by
  rw [Pipeline.ownSems0_eq_of_list c cellList [0, 1, 2, 3, 4, 5, 6, 7, 8, 9, 10, 11, 12, 13, 14, 15, 16, 17, 18, 19, 20, 21, 22, 23, 24, 25, 26, 27, 28, 29] (by decide) (by decide)]; rfl
end Given

end Cert.Nfm

end
-- ==== Proof.Launch.lean ====
module

public import proofs.«01_k».proof.Proof.Body
public import proofs.«01_k».proof.Proof.InOut
public import Idealize.ShloMosaic.Lib.Claim

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

theorem wholeX1 (c : Dev nD) (f) : dstP (F := F) c tailX1 f = (((c : Thread nD τ).loc cc0_scratch3) ↦{fullShare} f : sProp 𝕄) := by
  have e : (tailX1).view.set = Finset.univ := View.set_whole _
  unfold dstP; rw [e]
theorem lentX1 (c : Dev nD) (W : Cont (F := F) c hbmX) : (wholeP c srcX1 lentT1 W : sProp 𝕄) = wholeP c hbmX lentT1 W := rfl
theorem wholeE1 (c : Dev nD) (f) : dstP (F := F) c tailE1 f = (((c : Thread nD τ).loc cc0_scratch4) ↦{fullShare} f : sProp 𝕄) := by
  have e : (tailE1).view.set = Finset.univ := View.set_whole _
  unfold dstP; rw [e]
theorem lentE1 (c : Dev nD) (W : Cont (F := F) c hbmE) : (wholeP c srcE1 lentT1 W : sProp 𝕄) = wholeP c hbmE lentT1 W := rfl
theorem wholeL1 (c : Dev nD) (f) : dstP (F := F) c tailL1 f = (((c : Thread nD τ).loc cc0_scratch5) ↦{fullShare} f : sProp 𝕄) := by
  have e : (tailL1).view.set = Finset.univ := View.set_whole _
  unfold dstP; rw [e]
theorem lentL1 (c : Dev nD) (W : Cont (F := F) c hbmL) : (wholeP c srcL1 lentT1 W : sProp 𝕄) = wholeP c hbmL lentT1 W := rfl
theorem wholeX2 (c : Dev nD) (f) : dstP (F := F) c tailX2 f = (((c : Thread nD τ).loc cc0_scratch6) ↦{fullShare} f : sProp 𝕄) := by
  have e : (tailX2).view.set = Finset.univ := View.set_whole _
  unfold dstP; rw [e]
theorem lentX2 (c : Dev nD) (W : Cont (F := F) c hbmX) : (wholeP c srcX2 lentT2 W : sProp 𝕄) = wholeP c hbmX lentT2 W := rfl
theorem wholeE2 (c : Dev nD) (f) : dstP (F := F) c tailE2 f = (((c : Thread nD τ).loc cc0_scratch7) ↦{fullShare} f : sProp 𝕄) := by
  have e : (tailE2).view.set = Finset.univ := View.set_whole _
  unfold dstP; rw [e]
theorem lentE2 (c : Dev nD) (W : Cont (F := F) c hbmE) : (wholeP c srcE2 lentT2 W : sProp 𝕄) = wholeP c hbmE lentT2 W := rfl
theorem wholeL2 (c : Dev nD) (f) : dstP (F := F) c tailL2 f = (((c : Thread nD τ).loc cc0_scratch8) ↦{fullShare} f : sProp 𝕄) := by
  have e : (tailL2).view.set = Finset.univ := View.set_whole _
  unfold dstP; rw [e]
theorem lentL2 (c : Dev nD) (W : Cont (F := F) c hbmL) : (wholeP c srcL2 lentT2 W : sProp 𝕄) = wholeP c hbmL lentT2 W := rfl
/-- Separation associates. -/
theorem assoc_eq (P Q R : sProp 𝕄) : iprop((P ∗ Q) ∗ R) = iprop(P ∗ (Q ∗ R)) := BI.equiv_iff.mp ⟨BI.sep_assoc, BI.sep_assoc'⟩
/-- Thirty conjuncts in four groups. -/
theorem regroup (a0 a1 a2 a3 a4 a5 a6 a7 b0 b1 b2 b3 b4 b5 b6 b7 c0 c1 c2 c3 c4 c5 c6 c7 d0 d1 d2 d3 d4 d5 : sProp 𝕄) : iprop(a0 ∗ a1 ∗ a2 ∗ a3 ∗ a4 ∗ a5 ∗ a6 ∗ a7 ∗ b0 ∗ b1 ∗ b2 ∗ b3 ∗ b4 ∗ b5 ∗ b6 ∗ b7 ∗ c0 ∗ c1 ∗ c2 ∗ c3 ∗ c4 ∗ c5 ∗ c6 ∗ c7 ∗ d0 ∗ d1 ∗ d2 ∗ d3 ∗ d4 ∗ d5) = iprop((a0 ∗ a1 ∗ a2 ∗ a3 ∗ a4 ∗ a5 ∗ a6 ∗ a7) ∗ (b0 ∗ b1 ∗ b2 ∗ b3 ∗ b4 ∗ b5 ∗ b6 ∗ b7) ∗ (c0 ∗ c1 ∗ c2 ∗ c3 ∗ c4 ∗ c5 ∗ c6 ∗ c7) ∗ (d0 ∗ d1 ∗ d2 ∗ d3 ∗ d4 ∗ d5)) := by
  simp only [assoc_eq]
/-- Ring X: its buffer, its cells at zero and its operand are eight free slots and the operand's shares for the tails, -/
theorem inX (c : Dev nD) (W : Cont (F := F) c hbmX) : iprop((∃ f, ((c : Thread nD τ).loc cc0_scratch0) ↦{fullShare} f) ∗ (zeroP (F := F) c (semX 0) ∗ zeroP (F := F) c (semX 1) ∗ zeroP (F := F) c (semX 2) ∗ zeroP (F := F) c (semX 3) ∗ zeroP (F := F) c (semX 4) ∗ zeroP (F := F) c (semX 5) ∗ zeroP (F := F) c (semX 6) ∗ zeroP (F := F) c (semX 7)) ∗ wholeP c hbmX fullShare W)
    ⊢ iprop(bigSep Finset.univ (freeX c W) ∗ wholeP c hbmX lentT1 W ∗ wholeP c hbmX lentT2 W) := by
  iintro ⟨Hb, Hz, Hw⟩
  iapply (ring_in c slotX semX hbmX W)
  isplitl [Hb]; · iapply (cutX c).1; iexact Hb
  isplitl [Hz]; · iexact Hz
  iexact Hw
/-- and back. -/
theorem outX (c : Dev nD) (W : Cont (F := F) c hbmX) : iprop(bigSep Finset.univ (freeX c W) ∗ wholeP c hbmX lentT1 W ∗ wholeP c hbmX lentT2 W)
    ⊢ iprop((∃ f, ((c : Thread nD τ).loc cc0_scratch0) ↦{fullShare} f) ∗ (zeroP (F := F) c (semX 0) ∗ zeroP (F := F) c (semX 1) ∗ zeroP (F := F) c (semX 2) ∗ zeroP (F := F) c (semX 3) ∗ zeroP (F := F) c (semX 4) ∗ zeroP (F := F) c (semX 5) ∗ zeroP (F := F) c (semX 6) ∗ zeroP (F := F) c (semX 7)) ∗ wholeP c hbmX fullShare W) := by
  iintro H
  ihave H := ring_out c slotX semX hbmX W $$ H
  icases H with ⟨Hb, Hz, Hw⟩
  isplitl [Hb]; · iapply (cutX c).2; iexact Hb
  isplitl [Hz]; · iexact Hz
  iexact Hw
/-- Ring E: its buffer, its cells at zero and its operand are eight free slots and the operand's shares for the tails, -/
theorem inE (c : Dev nD) (W : Cont (F := F) c hbmE) : iprop((∃ f, ((c : Thread nD τ).loc cc0_scratch1) ↦{fullShare} f) ∗ (zeroP (F := F) c (semE 0) ∗ zeroP (F := F) c (semE 1) ∗ zeroP (F := F) c (semE 2) ∗ zeroP (F := F) c (semE 3) ∗ zeroP (F := F) c (semE 4) ∗ zeroP (F := F) c (semE 5) ∗ zeroP (F := F) c (semE 6) ∗ zeroP (F := F) c (semE 7)) ∗ wholeP c hbmE fullShare W)
    ⊢ iprop(bigSep Finset.univ (freeE c W) ∗ wholeP c hbmE lentT1 W ∗ wholeP c hbmE lentT2 W) := by
  iintro ⟨Hb, Hz, Hw⟩
  iapply (ring_in c slotE semE hbmE W)
  isplitl [Hb]; · iapply (cutE c).1; iexact Hb
  isplitl [Hz]; · iexact Hz
  iexact Hw
/-- and back. -/
theorem outE (c : Dev nD) (W : Cont (F := F) c hbmE) : iprop(bigSep Finset.univ (freeE c W) ∗ wholeP c hbmE lentT1 W ∗ wholeP c hbmE lentT2 W)
    ⊢ iprop((∃ f, ((c : Thread nD τ).loc cc0_scratch1) ↦{fullShare} f) ∗ (zeroP (F := F) c (semE 0) ∗ zeroP (F := F) c (semE 1) ∗ zeroP (F := F) c (semE 2) ∗ zeroP (F := F) c (semE 3) ∗ zeroP (F := F) c (semE 4) ∗ zeroP (F := F) c (semE 5) ∗ zeroP (F := F) c (semE 6) ∗ zeroP (F := F) c (semE 7)) ∗ wholeP c hbmE fullShare W) := by
  iintro H
  ihave H := ring_out c slotE semE hbmE W $$ H
  icases H with ⟨Hb, Hz, Hw⟩
  isplitl [Hb]; · iapply (cutE c).2; iexact Hb
  isplitl [Hz]; · iexact Hz
  iexact Hw
/-- Ring L: its buffer, its cells at zero and its operand are eight free slots and the operand's shares for the tails, -/
theorem inL (c : Dev nD) (W : Cont (F := F) c hbmL) : iprop((∃ f, ((c : Thread nD τ).loc cc0_scratch2) ↦{fullShare} f) ∗ (zeroP (F := F) c (semL 0) ∗ zeroP (F := F) c (semL 1) ∗ zeroP (F := F) c (semL 2) ∗ zeroP (F := F) c (semL 3) ∗ zeroP (F := F) c (semL 4) ∗ zeroP (F := F) c (semL 5) ∗ zeroP (F := F) c (semL 6) ∗ zeroP (F := F) c (semL 7)) ∗ wholeP c hbmL fullShare W)
    ⊢ iprop(bigSep Finset.univ (freeL c W) ∗ wholeP c hbmL lentT1 W ∗ wholeP c hbmL lentT2 W) := by
  iintro ⟨Hb, Hz, Hw⟩
  iapply (ring_in c slotL semL hbmL W)
  isplitl [Hb]; · iapply (cutL c).1; iexact Hb
  isplitl [Hz]; · iexact Hz
  iexact Hw
/-- and back. -/
theorem outL (c : Dev nD) (W : Cont (F := F) c hbmL) : iprop(bigSep Finset.univ (freeL c W) ∗ wholeP c hbmL lentT1 W ∗ wholeP c hbmL lentT2 W)
    ⊢ iprop((∃ f, ((c : Thread nD τ).loc cc0_scratch2) ↦{fullShare} f) ∗ (zeroP (F := F) c (semL 0) ∗ zeroP (F := F) c (semL 1) ∗ zeroP (F := F) c (semL 2) ∗ zeroP (F := F) c (semL 3) ∗ zeroP (F := F) c (semL 4) ∗ zeroP (F := F) c (semL 5) ∗ zeroP (F := F) c (semL 6) ∗ zeroP (F := F) c (semL 7)) ∗ wholeP c hbmL fullShare W) := by
  iintro H
  ihave H := ring_out c slotL semL hbmL W $$ H
  icases H with ⟨Hb, Hz, Hw⟩
  isplitl [Hb]; · iapply (cutL c).2; iexact Hb
  isplitl [Hz]; · iexact Hz
  iexact Hw

variable (m : (ℓ : Loc nD τ sig) → Buf (Elt F) ℓ) (ρ : Dev nD → PrngReg)

/-- What the launch hands the region: the scratch buffers, the register, the own cells at zero, the operands whole. -/
theorem given_eq (c : Dev nD) : (Pipeline.ΦD cellList spec0 operands (V m) c : sProp 𝕄)
    = iprop(((∃ f, ((c : Thread nD τ).loc cc0_scratch0) ↦{fullShare} f) ∗ (∃ f, ((c : Thread nD τ).loc cc0_scratch1) ↦{fullShare} f) ∗ (∃ f, ((c : Thread nD τ).loc cc0_scratch2) ↦{fullShare} f) ∗ (∃ f, ((c : Thread nD τ).loc cc0_scratch3) ↦{fullShare} f) ∗ (∃ f, ((c : Thread nD τ).loc cc0_scratch4) ↦{fullShare} f) ∗ (∃ f, ((c : Thread nD τ).loc cc0_scratch5) ↦{fullShare} f) ∗ (∃ f, ((c : Thread nD τ).loc cc0_scratch6) ↦{fullShare} f) ∗ (∃ f, ((c : Thread nD τ).loc cc0_scratch7) ↦{fullShare} f) ∗ (∃ f, ((c : Thread nD τ).loc cc0_scratch8) ↦{fullShare} f) ∗ (∃ d, owns (c : Thread nD τ) accM fullShare d) ∗ (∃ d, owns (c : Thread nD τ) sqM fullShare d)) ∗ (∃ r, prngReg c r)
      ∗ ((zeroP (F := F) c (semX 0) ∗ zeroP (F := F) c (semX 1) ∗ zeroP (F := F) c (semX 2) ∗ zeroP (F := F) c (semX 3) ∗ zeroP (F := F) c (semX 4) ∗ zeroP (F := F) c (semX 5) ∗ zeroP (F := F) c (semX 6) ∗ zeroP (F := F) c (semX 7)) ∗ (zeroP (F := F) c (semE 0) ∗ zeroP (F := F) c (semE 1) ∗ zeroP (F := F) c (semE 2) ∗ zeroP (F := F) c (semE 3) ∗ zeroP (F := F) c (semE 4) ∗ zeroP (F := F) c (semE 5) ∗ zeroP (F := F) c (semE 6) ∗ zeroP (F := F) c (semE 7)) ∗ (zeroP (F := F) c (semL 0) ∗ zeroP (F := F) c (semL 1) ∗ zeroP (F := F) c (semL 2) ∗ zeroP (F := F) c (semL 3) ∗ zeroP (F := F) c (semL 4) ∗ zeroP (F := F) c (semL 5) ∗ zeroP (F := F) c (semL 6) ∗ zeroP (F := F) c (semL 7)) ∗ (zeroP (F := F) c semT0 ∗ zeroP (F := F) c semT1 ∗ zeroP (F := F) c semT2 ∗ zeroP (F := F) c semT3 ∗ zeroP (F := F) c semT4 ∗ zeroP (F := F) c semT5))
      ∗ (wholeP c hbmX fullShare (V m c main_arg0) ∗ wholeP c hbmE fullShare (V m c main_arg2) ∗ wholeP c hbmL fullShare (V m c main_v7))) := by
  rw [Pipeline.ΦD_eq, scopedRest0_eq, cells_eq, operands_eq]; rw [regroup]; simp only [accM, sqM, owns_whole]; rfl

set_option maxHeartbeats 1000000 in
/-- It is the invariant before the first point, -/
theorem hin (c : Dev nD) : Pipeline.ΦD cellList spec0 operands (V m) c ⊢ (dats m 0 c).Φ 0 := by
  rw [given_eq, show (dats m 0 c).Φ 0 = inv c (V m c main_arg0) (V m c main_arg2) (V m c main_v7) 0 from rfl]
  unfold inv
  rw [ring_start, ring_start, ring_start, tailsAt_free _ _ _ _ 0 (by omega)]
  unfold tailsFree freeP
  simp only [wholeX1, wholeE1, wholeL1, wholeX2, wholeE2, wholeL2]
  rw [lentX1, lentE1, lentL1, lentX2, lentE2, lentL2]
  iintro ⟨⟨S0, S1, S2, S3, S4, S5, S6, S7, S8, S9, S10⟩, Hg, ⟨ZX, ZE, ZL, ⟨ZT0, ZT1, ZT2, ZT3, ZT4, ZT5⟩⟩, HX, HE, HL⟩
  ihave RX := inX c (V m c main_arg0) $$ [S0 ZX HX]
  · isplitl [S0]; · iexact S0
    isplitl [ZX]; · iexact ZX
    iexact HX
  icases RX with ⟨RX, LX1, LX2⟩
  ihave RE := inE c (V m c main_arg2) $$ [S1 ZE HE]
  · isplitl [S1]; · iexact S1
    isplitl [ZE]; · iexact ZE
    iexact HE
  icases RE with ⟨RE, LE1, LE2⟩
  ihave RL := inL c (V m c main_v7) $$ [S2 ZL HL]
  · isplitl [S2]; · iexact S2
    isplitl [ZL]; · iexact ZL
    iexact HL
  icases RL with ⟨RL, LL1, LL2⟩
  isplitl [S9]
  · icases S9 with ⟨%a, S9⟩
    iexists a
    isplitl [S9]; · iexact S9
    ipureintro; exact fun h => absurd h.1 (by omega)
  isplitl [S10]
  · icases S10 with ⟨%q, S10⟩
    iexists q
    isplitl [S10]; · iexact S10
    ipureintro; exact fun h => absurd h.1 (by omega)
  isplitl [Hg]; · iexact Hg
  isplitl [RX]; · iexact RX
  isplitl [RE]; · iexact RE
  isplitl [RL]; · iexact RL
  isplitl [ZT0 S3 LX1]
  · isplitl [ZT0]; · iexact ZT0
    icases S3 with ⟨%f0, S3⟩
    iexists f0
    isplitl [S3]; · iexact S3
    iexact LX1
  isplitl [ZT1 S4 LE1]
  · isplitl [ZT1]; · iexact ZT1
    icases S4 with ⟨%f1, S4⟩
    iexists f1
    isplitl [S4]; · iexact S4
    iexact LE1
  isplitl [ZT2 S5 LL1]
  · isplitl [ZT2]; · iexact ZT2
    icases S5 with ⟨%f2, S5⟩
    iexists f2
    isplitl [S5]; · iexact S5
    iexact LL1
  isplitl [ZT3 S6 LX2]
  · isplitl [ZT3]; · iexact ZT3
    icases S6 with ⟨%f3, S6⟩
    iexists f3
    isplitl [S6]; · iexact S6
    iexact LX2
  isplitl [ZT4 S7 LE2]
  · isplitl [ZT4]; · iexact ZT4
    icases S7 with ⟨%f4, S7⟩
    iexists f4
    isplitl [S7]; · iexact S7
    iexact LE2
  isplitl [ZT5]; · iexact ZT5
  icases S8 with ⟨%f5, S8⟩
  iexists f5
  isplitl [S8]; · iexact S8
  iexact LL2

set_option maxHeartbeats 1000000 in
/-- and the invariant after the last point gives it back. -/
theorem hout (c : Dev nD) : (dats m 0 c).Φ (Fin.last cfg0.N) ⊢ Pipeline.ΦD cellList spec0 operands (V m) c := by
  rw [given_eq, show (dats m 0 c).Φ (Fin.last cfg0.N) = inv c (V m c main_arg0) (V m c main_arg2) (V m c main_v7) grid0.N from rfl, show grid0.N = 97 by rw [N_0]]
  unfold inv
  rw [ring_end, ring_end, ring_end, tailsAt_free _ _ _ _ 97 (by omega)]
  unfold tailsFree freeP
  simp only [wholeX1, wholeE1, wholeL1, wholeX2, wholeE2, wholeL2]
  rw [lentX1, lentE1, lentL1, lentX2, lentE2, lentL2]
  iintro ⟨⟨%a, S9, -⟩, ⟨%q, S10, -⟩, Hg, RX, RE, RL, ⟨ZT0, %f0, S3, LX1⟩, ⟨ZT1, %f1, S4, LE1⟩, ⟨ZT2, %f2, S5, LL1⟩, ⟨ZT3, %f3, S6, LX2⟩, ⟨ZT4, %f4, S7, LE2⟩, ⟨ZT5, %f5, S8, LL2⟩⟩
  ihave RX := outX c (V m c main_arg0) $$ [RX LX1 LX2]
  · isplitl [RX]; · iexact RX
    isplitl [LX1]; · iexact LX1
    iexact LX2
  icases RX with ⟨S0, ZX, HX⟩
  ihave RE := outE c (V m c main_arg2) $$ [RE LE1 LE2]
  · isplitl [RE]; · iexact RE
    isplitl [LE1]; · iexact LE1
    iexact LE2
  icases RE with ⟨S1, ZE, HE⟩
  ihave RL := outL c (V m c main_v7) $$ [RL LL1 LL2]
  · isplitl [RL]; · iexact RL
    isplitl [LL1]; · iexact LL1
    iexact LL2
  icases RL with ⟨S2, ZL, HL⟩
  isplitl [S0 S1 S2 S3 S4 S5 S6 S7 S8 S9 S10]
  · isplitl [S0]; · iexact S0
    isplitl [S1]; · iexact S1
    isplitl [S2]; · iexact S2
    isplitl [S3]; · iexists f0; iexact S3
    isplitl [S4]; · iexists f1; iexact S4
    isplitl [S5]; · iexists f2; iexact S5
    isplitl [S6]; · iexists f3; iexact S6
    isplitl [S7]; · iexists f4; iexact S7
    isplitl [S8]; · iexists f5; iexact S8
    isplitl [S9]; · iexists a; iexact S9
    iexists q; iexact S10
  isplitl [Hg]; · iexact Hg
  isplitl [ZX ZE ZL ZT0 ZT1 ZT2 ZT3 ZT4 ZT5]
  · isplitl [ZX]; · iexact ZX
    isplitl [ZE]; · iexact ZE
    isplitl [ZL]; · iexact ZL
    isplitl [ZT0]; · iexact ZT0
    isplitl [ZT1]; · iexact ZT1
    isplitl [ZT2]; · iexact ZT2
    isplitl [ZT3]; · iexact ZT3
    isplitl [ZT4]; · iexact ZT4
    iexact ZT5
  isplitl [HX]; · iexact HX
  isplitl [HE]; · iexact HE
  iexact HL

set_option maxHeartbeats 800000 in
/-- @main up to the region: its host operations, then the region. -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- The launch: every execution ends with every array at what the proof data says and every counter at zero. -/
theorem run_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 cellList defs₀ Variants.none cellFacts operands operands_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The frame: every execution terminates, the argument arrays end as they began and every counter at zero. -/
theorem frame_all : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c => ⟨((h.1 c).2 main_arg0 (Pipeline.mem_restRefs_of main_arg0 (by decide) (by decide))).trans (V_main_arg0 m c), ((h.1 c).2 main_arg1 (Pipeline.mem_restRefs_of main_arg1 (by decide) (by decide))).trans (V_main_arg1 m c), ((h.1 c).2 main_arg2 (Pipeline.mem_restRefs_of main_arg2 (by decide) (by decide))).trans (V_main_arg2 m c), ((h.1 c).2 main_arg3 (Pipeline.mem_restRefs_of main_arg3 (by decide) (by decide))).trans (V_main_arg3 m c),
      ((h.1 c).1 5).trans (((dats m 0 c).arrAt_in 5 rfl _).trans ((A_eq m c 5).trans (V_main_arg4 m c))),
      ((h.1 c).1 0).trans (((dats m 0 c).arrAt_in 0 rfl _).trans ((A_eq m c 0).trans (V_main_arg5 m c))),
      ((h.1 c).1 1).trans (((dats m 0 c).arrAt_in 1 rfl _).trans ((A_eq m c 1).trans (V_main_arg6 m c))),
      ((h.1 c).1 2).trans (((dats m 0 c).arrAt_in 2 rfl _).trans ((A_eq m c 2).trans (V_main_arg7 m c))),
      ((h.1 c).1 3).trans (((dats m 0 c).arrAt_in 3 rfl _).trans ((A_eq m c 3).trans (V_main_arg8 m c))),
      ((h.1 c).1 4).trans (((dats m 0 c).arrAt_in 4 rfl _).trans ((A_eq m c 4).trans (V_main_arg9 m c)))⟩, h.2⟩) (run_quiescent m ρ)

end Cert.Nfm

end
-- ==== Proof.Frames.lean ====
module

public import proofs.«01_k».proof.Kernel
public import proofs.«01_k».proof.Proof.Gen.Kernel
public import proofs.«01_k».proof.Proof.Launch

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two programs' body tables are one table: row by row the same text. -/
theorem defs₀_same : @Cert.Kernel.defs₀ F _ _ = (@Cert.KernelIdeal.defs₀ F _ _ : Defs nD τ sig (Elt F) Λ₀) := by
  unfold Cert.Kernel.defs₀ Cert.KernelIdeal.defs₀
  refine congrArg Defs.onTc ?_
  funext l x
  match l, x with
  | ⟨0, _⟩, (t, s) => rfl
  | ⟨n + 1, hn⟩, _ => exact absurd hn (Nat.not_lt.2 (Nat.le_add_left _ _))
theorem defs_same : @Cert.Kernel.defs F _ _ = (@Cert.KernelIdeal.defs F _ _ : Defs nD τ sig (Elt F) (Pipeline.Sig Λ₀ (Fin 1) fun p => (pcfgs (F := F) p).Adm)) := by
  unfold Cert.Kernel.defs Cert.KernelIdeal.defs
  exact congrArg (Pipeline.defs pcfgs) defs₀_same
theorem main_same : @Cert.Kernel.main F _ _ = @Cert.KernelIdeal.main F _ _ := rfl

/-- The kernel's frame at any float values: its program is the idealized one's text. -/
theorem kernel_frame (m : (ℓ : Loc Cert.Kernel.nD Cert.Kernel.τ Cert.Kernel.sig) → Buf (Elt F) ℓ) (ρ : Dev Cert.Kernel.nD → PrngReg) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0) := by
  rw [defs_same, main_same]
  exact frame_all m ρ

end Cert.Nfm

end
-- ==== Proof.BlockSums.lean ====
module

public import proofs.«01_k».proof.Proof.Setup
public import Idealize.ShloMosaic.Lib.Pointwise

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What one block adds to the accumulators, at the ideal values -/

/-- Column `j` of the wide right operand, in one row of embeddings `e` and linear weights `l`: the embedding, the
    embedding less itself, the two parts of the linear weight. -/
def wideAt (e : Fin 64 → EReal) (l : Fin 2 → EReal) (j : Fin 128) : EReal :=
  if h : j.val < 64 then e ⟨j.val, h⟩
  else if h' : j.val - 64 < 62 then e ⟨j.val - 64, by omega⟩ - e ⟨j.val - 64, by omega⟩
  else l ⟨j.val - 64 - 62, by omega⟩

/-- A whole block adds the products of its 1024 columns with the wide rows, -/
theorem accBlock_at (x : Vec Ideal S1024x1024 .f32) (e : Vec Ideal S1024x64 .f32) (l : Vec Ideal S1024x2 .bf16) (a : Vec Ideal S1024x128 .f32) (r : Fin 1024) (j : Fin 128) :
    accBlock x e l a (ix2 r j) = a (ix2 r j) + ∑ k : Fin 1024, x (ix2 r k) * wideAt (fun d => e (ix2 k d)) (fun d => l (ix2 k d)) j := by
  pointwise [accBlock, k0_pay1, wideAt]
/-- the first tail those of its 640, -/
theorem accTail1_at (x : Vec Ideal S1024x640 .f32) (e : Vec Ideal S640x64 .f32) (l : Vec Ideal S640x2 .bf16) (a : Vec Ideal S1024x128 .f32) (r : Fin 1024) (j : Fin 128) :
    accTail1 x e l a (ix2 r j) = a (ix2 r j) + ∑ k : Fin 640, x (ix2 r k) * wideAt (fun d => e (ix2 k d)) (fun d => l (ix2 k d)) j := by
  pointwise [accTail1, k0_pay11, k0_pay6, k0_pay8, k0_pay10, wideAt]
/-- the second those of its 32. -/
theorem accTail2_at (x : Vec Ideal S1024x32 .f32) (e : Vec Ideal S32x64 .f32) (l : Vec Ideal S32x2 .bf16) (a : Vec Ideal S1024x128 .f32) (r : Fin 1024) (j : Fin 128) :
    accTail2 x e l a (ix2 r j) = a (ix2 r j) + ∑ k : Fin 32, x (ix2 r k) * wideAt (fun d => e (ix2 k d)) (fun d => l (ix2 k d)) j := by
  pointwise [accTail2, k0_pay16, k0_pay13, wideAt]
/-- The squares' accumulator gains the products of the squares: over a whole block, -/
theorem sqBlock_at (x : Vec Ideal S1024x1024 .f32) (e : Vec Ideal S1024x64 .f32) (q : Vec Ideal S1024x64 .f32) (r : Fin 1024) (d : Fin 64) :
    sqBlock x e q (ix2 r d) = q (ix2 r d) + ∑ k : Fin 1024, x (ix2 r k) * x (ix2 r k) * (e (ix2 k d) * e (ix2 k d)) := by
  pointwise [sqBlock, k0_pay2]
/-- over the first tail, -/
theorem sqTail1_at (x : Vec Ideal S1024x640 .f32) (e : Vec Ideal S640x64 .f32) (q : Vec Ideal S1024x64 .f32) (r : Fin 1024) (d : Fin 64) :
    sqTail1 x e q (ix2 r d) = q (ix2 r d) + ∑ k : Fin 640, x (ix2 r k) * x (ix2 r k) * (e (ix2 k d) * e (ix2 k d)) := by
  pointwise [sqTail1, k0_pay12, k0_pay7, k0_pay6, k0_pay9]
/-- over the second. -/
theorem sqTail2_at (x : Vec Ideal S1024x32 .f32) (e : Vec Ideal S32x64 .f32) (q : Vec Ideal S1024x64 .f32) (r : Fin 1024) (d : Fin 64) :
    sqTail2 x e q (ix2 r d) = q (ix2 r d) + ∑ k : Fin 32, x (ix2 r k) * x (ix2 r k) * (e (ix2 k d) * e (ix2 k d)) := by
  pointwise [sqTail2, k0_pay17, k0_pay14, k0_pay13, k0_pay15]
/-- Both accumulators start at zero. -/
theorem acc_start (r : Fin 1024) (j : Fin 128) : (k0_pay4 (F := Ideal)) (ix2 r j) = 0 := by pointwise [k0_pay4]
theorem sq_start (r : Fin 1024) (d : Fin 64) : (k0_pay5 (F := Ideal)) (ix2 r d) = 0 := by pointwise [k0_pay5]

end Cert.Nfm

end
-- ==== Proof.Squares.lean ====
module

public import Mathlib.Data.EReal.Operations
public import Mathlib.Algebra.BigOperators.Fin
public import Mathlib.Algebra.BigOperators.Intervals

@[expose] public section

noncomputable section

namespace Cert.Nfm

/-! ## Sums of extended reals with a correction that is zero or infinite -/

/-- An extended real that is one of the two infinities. -/
def IsInf (x : EReal) : Prop := x = ⊤ ∨ x = ⊥

/-- An infinity plus anything is an infinity. -/
theorem IsInf.add_right {x : EReal} (h : IsInf x) (y : EReal) : IsInf (x + y) := by
  rcases h with rfl | rfl
  · rcases eq_or_ne y ⊥ with rfl | hy
    · exact Or.inr (EReal.add_bot _)
    · exact Or.inl (EReal.top_add_of_ne_bot hy)
  · exact Or.inr (EReal.bot_add _)

/-- A sum with an infinite term is infinite. -/
theorem IsInf.sum {ι : Type} (s : Finset ι) (f : ι → EReal) {i : ι} (hi : i ∈ s) (h : IsInf (f i)) : IsInf (∑ k ∈ s, f k) := by
  classical
  rw [← Finset.add_sum_erase s f hi]
  exact h.add_right _

/-- The square of an infinity is `⊤`. -/
theorem IsInf.mul_self {x : EReal} (h : IsInf x) : x * x = ⊤ := by
  rcases h with rfl | rfl
  · exact EReal.top_mul_top
  · exact EReal.bot_mul_bot

/-- A nonzero factor times an infinity is an infinity. -/
theorem IsInf.mul_left {x e : EReal} (hx : x ≠ 0) (h : IsInf e) : IsInf (x * e) := by
  rcases lt_or_gt_of_ne hx with hx | hx <;> rcases h with rfl | rfl
  · exact Or.inr (EReal.mul_top_of_neg hx)
  · exact Or.inl (EReal.mul_bot_of_neg hx)
  · exact Or.inl (EReal.mul_top_of_pos hx)
  · exact Or.inr (EReal.mul_bot_of_pos hx)

/-- A finite extended real less itself is zero. -/
theorem sub_self_of_finite {e : EReal} (h : ¬ IsInf e) : e - e = 0 :=
  EReal.sub_self (fun t => h (Or.inl t)) (fun b => h (Or.inr b))

/-- A weighted sum, corrected by the same weights on each value less itself, has the uncorrected sum's square: the
    correction is zero, or both the sum and the corrected sum are infinite. -/
theorem mul_self_corrected {ι : Type} (s : Finset ι) (x e : ι → EReal) :
    (∑ k ∈ s, x k * e k + ∑ k ∈ s, x k * (e k - e k)) * (∑ k ∈ s, x k * e k + ∑ k ∈ s, x k * (e k - e k))
      = (∑ k ∈ s, x k * e k) * (∑ k ∈ s, x k * e k) := by
  by_cases h : ∀ k ∈ s, x k * (e k - e k) = 0
  · rw [Finset.sum_eq_zero h, add_zero]
  · push Not at h
    obtain ⟨k, hk, hne⟩ := h
    have hx : x k ≠ 0 := fun h0 => hne (by rw [h0, zero_mul])
    have he : IsInf (e k) := by
      by_contra hf
      exact hne (by rw [sub_self_of_finite hf, mul_zero])
    have hS : IsInf (∑ k ∈ s, x k * e k) := IsInf.sum s (fun k => x k * e k) hk (IsInf.mul_left hx he)
    rw [(hS.add_right _).mul_self, hS.mul_self]

/-! ## A sum over 100000 terms, cut as the kernel cuts it -/

/-- A term over the 100000 positions, as a function of any natural number, zero past the end. -/
def ext (f : Fin 100000 → EReal) (k : ℕ) : EReal := if h : k < 100000 then f ⟨k, h⟩ else 0

/-- The sum of the first `n` terms. -/
def first (f : Fin 100000 → EReal) (n : ℕ) : EReal := ∑ k ∈ Finset.range n, ext f k

theorem first_zero (f : Fin 100000 → EReal) : first f 0 = 0 := rfl

/-- The next `w` terms are those at positions `n + k`. -/
theorem first_add (f : Fin 100000 → EReal) (n w : ℕ) (g : Fin w → EReal) (hb : n + w ≤ 100000)
    (hg : ∀ k : Fin w, g k = f ⟨n + k.val, by omega⟩) : first f n + ∑ k, g k = first f (n + w) := by
  unfold first
  rw [Finset.sum_range_add, Finset.sum_range (fun k => ext f (n + k))]
  exact congrArg _ (Finset.sum_congr rfl fun k _ => by rw [hg k, ext, dif_pos (show n + k.val < 100000 by omega)])

/-- All of them are the sum over every position. -/
theorem first_all (f : Fin 100000 → EReal) : first f 100000 = ∑ k, f k := by
  unfold first
  rw [Finset.sum_range]
  exact Finset.sum_congr rfl fun k _ => dif_pos k.isLt

end Cert.Nfm

end
-- ==== Proof.Accumulated.lean ====
module

public import proofs.«01_k».proof.Proof.Invariant
public import proofs.«01_k».proof.Proof.BlockSums
public import proofs.«01_k».proof.Proof.Squares

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The terms the accumulators sum -/

/-- Position `k`'s term of the first accumulator at row `r`, column `j`, -/
def accTerm (X : Vec Ideal S1024x100000 .f32) (E : Vec Ideal S100000x64 .f32) (L : Vec Ideal S100000x2 .bf16) (r : Fin 1024) (j : Fin 128) (k : Fin 100000) : EReal :=
  X (ix2 r k) * wideAt (fun d => E (ix2 k d)) (fun d => L (ix2 k d)) j
/-- and of the squares' at row `r`, column `d`. -/
def sqTerm (X : Vec Ideal S1024x100000 .f32) (E : Vec Ideal S100000x64 .f32) (r : Fin 1024) (d : Fin 64) (k : Fin 100000) : EReal :=
  X (ix2 r k) * X (ix2 r k) * (E (ix2 k d) * E (ix2 k d))

/-! ## The operands' blocks as parts of the operands -/

section Reads
variable (c : Dev nD) (X : Cont (F := Ideal) c hbmX) (E : Cont (F := Ideal) c hbmE) (L : Cont (F := Ideal) c hbmL)

/-- Where an index inside a two-axis window of a whole array lies in the array. -/
theorem window_at {n0 n1 m0 m1 : ℕ} (off : Fin 2 → ℕ) (inb : ∀ a, off a + (![m0, m1] : Fin 2 → ℕ) a ≤ (⟨2, ![n0, n1]⟩ : Shape).size a)
    (p : Fin m0) (q : Fin m1) (p' : Fin n0) (q' : Fin n1) (hp : p'.val = off 0 + p.val) (hq : q'.val = off 1 + q.val) :
    (Rect.unit (s := ⟨2, ![n0, n1]⟩) off ![m0, m1] inb).emb (ix2 p q) = ix2 p' q' :=
  Shape.idx_ext₂ ((by simp [Rect.unit, Rect.emb] : _ = off 0 + p.val).trans hp.symm) ((by simp [Rect.unit, Rect.emb] : _ = off 1 + q.val).trans hq.symm)

/-- Block `b` of the values holds columns `1024 * b` on, -/
theorem seen_srcX (b : Fin 97) (r k : Fin 1024) : seen c (srcX b) X (ix2 r k) = X (ix2 r ⟨1024 * b.val + k.val, by omega⟩) :=
  congrArg X (window_at _ (inb_srcX b) r k r ⟨1024 * b.val + k.val, by omega⟩ (by simp) (by simp))
/-- block `b` of the embeddings rows `1024 * b` on, -/
theorem seen_srcE (b : Fin 97) (k : Fin 1024) (d : Fin 64) : seen c (srcE b) E (ix2 k d) = E (ix2 ⟨1024 * b.val + k.val, by omega⟩ d) :=
  congrArg E (window_at _ (inb_srcE b) k d ⟨1024 * b.val + k.val, by omega⟩ d (by simp) (by simp))
/-- block `b` of the split linear weights too. -/
theorem seen_srcL (b : Fin 97) (k : Fin 1024) (d : Fin 2) : seen c (srcL b) L (ix2 k d) = L (ix2 ⟨1024 * b.val + k.val, by omega⟩ d) :=
  congrArg L (window_at _ (inb_srcL b) k d ⟨1024 * b.val + k.val, by omega⟩ d (by simp) (by simp))
/-- The first tail holds what lies from 99328 on, -/
theorem seen_srcX1 (r : Fin 1024) (k : Fin 640) : seen c srcX1 X (ix2 r k) = X (ix2 r ⟨99328 + k.val, by omega⟩) :=
  congrArg X (window_at _ inb_S1024x100000_S1024x640_0_99328 r k r ⟨99328 + k.val, by omega⟩ (by simp) (by simp))
theorem seen_srcE1 (k : Fin 640) (d : Fin 64) : seen c srcE1 E (ix2 k d) = E (ix2 ⟨99328 + k.val, by omega⟩ d) :=
  congrArg E (window_at _ inb_S100000x64_S640x64_99328_0 k d ⟨99328 + k.val, by omega⟩ d (by simp) (by simp))
theorem seen_srcL1 (k : Fin 640) (d : Fin 2) : seen c srcL1 L (ix2 k d) = L (ix2 ⟨99328 + k.val, by omega⟩ d) :=
  congrArg L (window_at _ inb_S100000x2_S640x2_99328_0 k d ⟨99328 + k.val, by omega⟩ d (by simp) (by simp))
/-- the second what lies from 99968 on. -/
theorem seen_srcX2 (r : Fin 1024) (k : Fin 32) : seen c srcX2 X (ix2 r k) = X (ix2 r ⟨99968 + k.val, by omega⟩) :=
  congrArg X (window_at _ inb_S1024x100000_S1024x32_0_99968 r k r ⟨99968 + k.val, by omega⟩ (by simp) (by simp))
theorem seen_srcE2 (k : Fin 32) (d : Fin 64) : seen c srcE2 E (ix2 k d) = E (ix2 ⟨99968 + k.val, by omega⟩ d) :=
  congrArg E (window_at _ inb_S100000x64_S32x64_99968_0 k d ⟨99968 + k.val, by omega⟩ d (by simp) (by simp))
theorem seen_srcL2 (k : Fin 32) (d : Fin 2) : seen c srcL2 L (ix2 k d) = L (ix2 ⟨99968 + k.val, by omega⟩ d) :=
  congrArg L (window_at _ inb_S100000x2_S32x2_99968_0 k d ⟨99968 + k.val, by omega⟩ d (by simp) (by simp))

/-! ## What the accumulators hold, as sums over the positions -/

theorem bk_val (n : ℕ) (h : n < 97) : (Ring.bk 97 n).val = n := Nat.mod_eq_of_lt h

/-- Before point `n` the first accumulator holds the sum of the first `1024 * n` terms, -/
theorem accAt_at (r : Fin 1024) (j : Fin 128) (n : ℕ) (h : n ≤ 97) : accAt c X E L n (ix2 r j) = first (accTerm X E L r j) (1024 * n) := by
  induction n with
  | zero => exact (acc_start r j).trans (first_zero _).symm
  | succ n ih =>
    have hb := bk_val n (by omega)
    rw [accAt, accBlock_at, ih (by omega)]
    refine first_add _ _ _ _ (by omega) fun k => ?_
    rw [seen_srcX]
    simp only [seen_srcE, seen_srcL, hb, accTerm]
/-- and the squares' accumulator too. -/
theorem sqAt_at (r : Fin 1024) (d : Fin 64) (n : ℕ) (h : n ≤ 97) : sqAt c X E n (ix2 r d) = first (sqTerm X E r d) (1024 * n) := by
  induction n with
  | zero => exact (sq_start r d).trans (first_zero _).symm
  | succ n ih =>
    have hb := bk_val n (by omega)
    rw [sqAt, sqBlock_at, ih (by omega)]
    refine first_add _ _ _ _ (by omega) fun k => ?_
    simp only [seen_srcX, seen_srcE, hb, sqTerm]

/-- With the tails added the first accumulator holds the sum over every position, -/
theorem accDone_at (r : Fin 1024) (j : Fin 128) : accDone c X E L (ix2 r j) = ∑ k, accTerm X E L r j k := by
  rw [accDone, accTail2_at, accTail1_at, accAt_at c X E L r j 97 le_rfl, ← first_all]
  rw [first_add (accTerm X E L r j) (1024 * 97) 640 _ (by omega) fun k => by simp only [seen_srcX1, seen_srcE1, seen_srcL1, accTerm]]
  exact first_add (accTerm X E L r j) (1024 * 97 + 640) 32 _ (by omega) fun k => by simp only [seen_srcX2, seen_srcE2, seen_srcL2, accTerm]
/-- and the squares' too. -/
theorem sqDone_at (r : Fin 1024) (d : Fin 64) : sqDone c X E (ix2 r d) = ∑ k, sqTerm X E r d k := by
  rw [sqDone, sqTail2_at, sqTail1_at, sqAt_at c X E r d 97 le_rfl, ← first_all]
  rw [first_add (sqTerm X E r d) (1024 * 97) 640 _ (by omega) fun k => by simp only [seen_srcX1, seen_srcE1, sqTerm]]
  exact first_add (sqTerm X E r d) (1024 * 97 + 640) 32 _ (by omega) fun k => by simp only [seen_srcX2, seen_srcE2, sqTerm]
end Reads

end Cert.Nfm

end
-- ==== Proof.Result.lean ====
module

public import proofs.«01_k».proof.Proof.Launch
public import Idealize.ShloMosaic.Lib.Pipeline.Value

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The last point. -/
def lastPt : Fin cfg0.N := ⟨96, by rw [show cfg0.N = 97 from N_0]; omega⟩
theorem flush_last : ∀ t : Fin cfg0.N, (cfg0.win 6).flush t = true → t = lastPt := fun t h => by
  by_contra hn
  have := noFlush_before_last t (fun e => hn (Fin.ext e))
  rw [h] at this; exact Bool.noConfusion this
theorem flush_lastPt : (cfg0.win 6).flush lastPt = true := by decide +kernel
/-- The output's block is its whole array: an element of the block is the same element of the array. -/
theorem out_emb (y : S1024.Idx) : ((cfg0.win 6).blk lastPt).view.emb y = y := by
  have h := Pipeline.Window.rect_emb_val_of_index_zero (cfg0.win 6) lastPt
  exact funext fun a => Fin.ext (h a (by fin_cases a; rfl) y)
/-- After the run the output array holds the finished rows. -/
theorem out_array (c : Dev nD) : (dats m 0 c).arrAt 6 cfg0.N = (outVal m c lastPt : S1024.Idx → Elt F .f32) :=
  funext fun i => by
    have h := (dats m 0 c).arrAt_emb_eq_flushed 6 (fun t t' ht ht' hne => absurd ((flush_last t ht).trans (flush_last t' ht').symm) hne) lastPt flush_lastPt i
    rw [out_emb] at h
    exact h.trans (congrFun (after6 m c lastPt) i)

/-- Every execution terminates with the result at the finished rows and the argument arrays as they began. -/
theorem result_all : θ_run defs (onTc (τ := τ) (main (F := F))) ⟨m, fun _ => 0, ρ⟩ (fun r => ∀ c : Dev nD,
      r.2.mem ((c.tc : Thread nD τ).loc main_v8) = (outVal m c lastPt : S1024.Idx → Elt F .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  by
    have A : θ_run defs (onTc (τ := τ) (main (F := F))) ⟨m, fun _ => 0, ρ⟩ (fun r => ∀ c : Dev nD,
        r.2.mem ((c.tc : Thread nD τ).loc main_v8) = (outVal m c lastPt : S1024.Idx → Elt F .f32)) :=
      (θ_run defs _ _).mono (fun _ h c => ((h.1 c).1 6).trans (out_array m c)) (run_quiescent m ρ)
    exact (θ_run defs _ _).mono (fun _ h c => ⟨h.1 c, h.2.1 c⟩) (θ_run_and A (frame_all m ρ))

end Cert.Nfm

end
-- ==== Proof.Operands.lean ====
module

public import proofs.«01_k».proof.Proof.Result
public import Idealize.ShloMosaic.Lib.Pointwise

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## What the region finds in its operands -/

/-- The host's split of the linear weights, as one term: the weight in the first column, the weight less itself in the second. -/
def splitVal {F : FTy → Type} [FloatOps F] (w : Vec F S1x100000 .f32) : Vec F S100000x2 .bf16 :=
  concatenate S100000x2 1 [⟨S100000x1, broadcastInDim S100000x1 ![0] bcast_S100000_S100000x1_0 (truncf .bf16 (shapeCast S100000 w shapeCasts_S1x100000_S100000) bitsLt_bf16_f32 : FVec F S100000 .bf16)⟩,
    ⟨S100000x1, broadcastInDim S100000x1 ![0] bcast_S100000_S100000x1_0 (truncf .bf16 (subf (shapeCast S100000 w shapeCasts_S1x100000_S100000) (extf .f32 (truncf .bf16 (shapeCast S100000 w shapeCasts_S1x100000_S100000) bitsLt_bf16_f32 : FVec F S100000 .bf16) bitsLt_bf16_f32)) bitsLt_bf16_f32 : FVec F S100000 .bf16)⟩]
    concatenates_S100000x1_S100000x1_S100000x2_d1
/-- Its first column is the linear weights, -/
theorem splitVal_fst (w : Vec Ideal S1x100000 .f32) (k : Fin 100000) : splitVal w (ix2 k 0) = w (ix2 0 k) := by
  pointwise [splitVal]
/-- its second each weight less itself. -/
theorem splitVal_snd (w : Vec Ideal S1x100000 .f32) (k : Fin 100000) : splitVal w (ix2 k 1) = w (ix2 0 k) - w (ix2 0 k) := by
  pointwise [splitVal]

section Operands
variable (m : (ℓ : Loc nD τ sig) → Buf (Elt Ideal) ℓ) (c : Dev nD)

/-- The region finds that split in its third operand. -/
theorem split_weights : (V m c main_v7 : Vec Ideal S100000x2 .bf16) = splitVal (m ((c : Thread nD τ).loc main_arg3)) := by
  show StableHlo.after hostOps0 (fun b => m (c, b)) main_v7 = _
  simp only [hostOps0, splitVal]
  after_results_simp <;> rfl

/-- The parameters' windows hold the parameters whole. -/
theorem block_w1 : (iblk m c 0 lastPt : Vec Ideal S64x64 .f32) = m ((c : Thread nD τ).loc main_arg5) :=
  (funext fun y => congrArg (V m c main_arg5) (funext fun a => Fin.ext (Pipeline.Window.rect_emb_val_of_index_zero (cfg0.win 0) lastPt a (by fin_cases a <;> rfl) y))).trans (V_main_arg5 m c)
theorem block_b1 : (iblk m c 1 lastPt : Vec Ideal S64 .f32) = m ((c : Thread nD τ).loc main_arg6) :=
  (funext fun y => congrArg (V m c main_arg6) (funext fun a => Fin.ext (Pipeline.Window.rect_emb_val_of_index_zero (cfg0.win 1) lastPt a (by fin_cases a; rfl) y))).trans (V_main_arg6 m c)
theorem block_w2 : (iblk m c 2 lastPt : Vec Ideal S32x64 .f32) = m ((c : Thread nD τ).loc main_arg7) :=
  (funext fun y => congrArg (V m c main_arg7) (funext fun a => Fin.ext (Pipeline.Window.rect_emb_val_of_index_zero (cfg0.win 2) lastPt a (by fin_cases a <;> rfl) y))).trans (V_main_arg7 m c)
theorem block_b2 : (iblk m c 3 lastPt : Vec Ideal S32 .f32) = m ((c : Thread nD τ).loc main_arg8) :=
  (funext fun y => congrArg (V m c main_arg8) (funext fun a => Fin.ext (Pipeline.Window.rect_emb_val_of_index_zero (cfg0.win 3) lastPt a (by fin_cases a; rfl) y))).trans (V_main_arg8 m c)
theorem block_w3 : (iblk m c 4 lastPt : Vec Ideal S1x32 .f32) = m ((c : Thread nD τ).loc main_arg9) :=
  (funext fun y => congrArg (V m c main_arg9) (funext fun a => Fin.ext (Pipeline.Window.rect_emb_val_of_index_zero (cfg0.win 4) lastPt a (by fin_cases a <;> rfl) y))).trans (V_main_arg9 m c)
theorem block_b3 : (iblk m c 5 lastPt : Vec Ideal S1 .f32) = m ((c : Thread nD τ).loc main_arg4) :=
  (funext fun y => congrArg (V m c main_arg4) (funext fun a => Fin.ext (Pipeline.Window.rect_emb_val_of_index_zero (cfg0.win 5) lastPt a (by fin_cases a; rfl) y))).trans (V_main_arg4 m c)
end Operands

end Cert.Nfm

end
-- ==== Proof.Reference.lean ====
module

public import proofs.«01_k».proof.Proof.Gen.ReferenceIdeal.Run
public import Idealize.ShloMosaic.Lib.Quiescent

@[expose] public section

noncomputable section

namespace Cert.Nfm.Reference

open Cert.ReferenceIdeal Cert.ReferenceIdeal.Gen Cert.ReferenceIdeal.Value Idealize.ShloMosaic Idealize.ShloMosaic.TcCoe Idealize.SL.Sem Idealize.ShloMosaic.StableHlo

variable {F : FTy → Type} [FloatOps F]

/-- The reference's frame: every execution terminates, its argument arrays as they began and every counter at zero. -/
theorem frame_all (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r h => ⟨fun c => (h c).2, sem_eq_zero_of_no_sems rfl r.2⟩) (run m ρ)

end Cert.Nfm.Reference

end
-- ==== Proof.Finish.lean ====
module

public import proofs.«01_k».proof.Proof.Setup
public import Idealize.ShloMosaic.Lib.Pointwise

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The layers -/

/-- The two layers and the head over one row's pooled features `z`. -/
def layers (z : Fin 64 → EReal) (w1 : Vec Ideal S64x64 .f32) (b1 : Vec Ideal S64 .f32) (w2 : Vec Ideal S32x64 .f32) (b2 : Vec Ideal S32 .f32) (w3 : Vec Ideal S1x32 .f32) : EReal :=
  ∑ x : Fin 32, max (∑ y : Fin 64, max (∑ d : Fin 64, z d * w1 (ix2 y d) + b1 (ix1 y)) 0 * w2 (ix2 x y) + b2 (ix1 x)) 0 * w3 (ix2 0 x)

/-- One half, as both programs spell it. -/
def half : EReal := Ideal.ofBits FTy.f32 0x3F000000#32

/-- The output's row `r` from the finished accumulators: the layers over half of `t d` less the squares, where `t` is the
    square of a column corrected by the column 64 further on (the last two columns have no correction), plus the last two
    columns and the bias. -/
theorem finish_at (a : Vec Ideal S1024x128 .f32) (q : Vec Ideal S1024x64 .f32) (w1 : Vec Ideal S64x64 .f32) (b1 : Vec Ideal S64 .f32) (w2 : Vec Ideal S32x64 .f32) (b2 : Vec Ideal S32 .f32) (w3 : Vec Ideal S1x32 .f32) (b3 : Vec Ideal S1 .f32) (r : Fin 1024) (t : Fin 64 → EReal)
    (hlo : ∀ d : Fin 62, (a (ix2 r ⟨d.val, by omega⟩) + a (ix2 r ⟨64 + d.val, by omega⟩)) * (a (ix2 r ⟨d.val, by omega⟩) + a (ix2 r ⟨64 + d.val, by omega⟩)) = t ⟨d.val, by omega⟩)
    (hhi : ∀ d : Fin 2, a (ix2 r ⟨62 + d.val, by omega⟩) * a (ix2 r ⟨62 + d.val, by omega⟩) = t ⟨62 + d.val, by omega⟩) :
    finish a q w1 b1 w2 b2 w3 b3 (ix1 r)
      = layers (fun d => half * (t d - q (ix2 r d))) w1 b1 w2 b2 w3 + (a (ix2 r 126) + a (ix2 r 127)) + b3 (ix1 0) := by
  pointwise [finish, k0_pay3, k0_pay18, k0_pay19, layers, half]
  simp only [hlo, hhi]
  congr 2
  refine Finset.sum_congr rfl fun x _ => ?_
  congr 3
  refine Finset.sum_congr rfl fun y _ => ?_
  congr 3
  exact (Fin.sum_univ_add (a := 62) (b := 2) (fun d : Fin 64 => Ideal.ofBits FTy.f32 0x3F000000#32 * (t d - q (ix2 r d)) * w1 (ix2 y d))).symm

end Cert.Nfm

end
-- ==== Proof.RefValue.lean ====
module

public import proofs.«01_k».proof.Proof.Reference
public import proofs.«01_k».proof.Proof.Finish
public import Idealize.ShloMosaic.Lib.Pointwise

@[expose] public section

noncomputable section

namespace Cert.Nfm.Reference

open Cert.ReferenceIdeal Cert.ReferenceIdeal.Gen Cert.ReferenceIdeal.Value Idealize.ShloMosaic Idealize.ShloMosaic.TcCoe Idealize.SL.Sem Idealize.ShloMosaic.StableHlo

/-- The reference's result as one term of its arguments. -/
def refVal {F : FTy → Type} [FloatOps F] (x : Vec F S1024x100000 .f32) (e : Vec F S100000x64 .f32) (lw : Vec F S1x100000 .f32) (lb : Vec F S1 .f32) (w1 : Vec F S64x64 .f32) (b1 : Vec F S64 .f32) (w2 : Vec F S32x64 .f32) (b2 : Vec F S32 .f32) (w3 : Vec F S1x32 .f32) : Vec F S1024 .f32 :=
  shapeCast S1024 (addf (addf (Host.dotGeneral dot_S1024x100000_S100000x1_S1024x1_1_0_0_1_n_n none x (transpose S100000x1 [1, 0] lw transposes_S1x100000_S100000x1_1_0)) (broadcastInDim S1024x1 ![0, 1] bcast_S1x1_S1024x1_0_1 (broadcastInDim S1x1 ![1] bcast_S1_S1x1_1 lb))) (Host.dotGeneral dot_S1024x32_S32x1_S1024x1_1_0_0_1_n_n none (maximumf (addf (Host.dotGeneral dot_S1024x64_S64x32_S1024x32_1_0_0_1_n_n none (maximumf (addf (Host.dotGeneral dot_S1024x64_S64x64_S1024x64_1_0_0_1_n_n none (mulf (broadcastInDim S1024x64 ![] bcast_S_S1024x64 (constant S_ .f32 0x3F000000#32)) (subf (mulf (Host.dotGeneral dot_S1024x100000_S100000x64_S1024x64_1_0_0_1_n_n none x e) (Host.dotGeneral dot_S1024x100000_S100000x64_S1024x64_1_0_0_1_n_n none x e)) (Host.dotGeneral dot_S1024x100000_S100000x64_S1024x64_1_0_0_1_n_n none (mulf x x) (mulf e e)))) (transpose S64x64 [1, 0] w1 transposes_S64x64_S64x64_1_0)) (broadcastInDim S1024x64 ![0, 1] bcast_S1x64_S1024x64_0_1 (broadcastInDim S1x64 ![1] bcast_S64_S1x64_1 b1))) (broadcastInDim S1024x64 ![] bcast_S_S1024x64 (constant S_ .f32 0x00000000#32))) (transpose S64x32 [1, 0] w2 transposes_S32x64_S64x32_1_0)) (broadcastInDim S1024x32 ![0, 1] bcast_S1x32_S1024x32_0_1 (broadcastInDim S1x32 ![1] bcast_S32_S1x32_1 b2))) (broadcastInDim S1024x32 ![] bcast_S_S1024x32 (constant S_ .f32 0x00000000#32))) (transpose S32x1 [1, 0] w3 transposes_S1x32_S32x1_1_0))) shapeCasts_S1024x1_S1024

/-- Every execution of the reference terminates with that term as its result and its arguments unchanged. -/
theorem result_all {F : FTy → Type} [FloatOps F] (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v28) = refVal (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h => h) (run m ρ)

/-- The result's row `r`: the linear term and its bias, and the layers over half of the squared sum less the sum of the squares. -/
theorem refVal_at (x : Vec Ideal S1024x100000 .f32) (e : Vec Ideal S100000x64 .f32) (lw : Vec Ideal S1x100000 .f32) (lb : Vec Ideal S1 .f32) (w1 : Vec Ideal S64x64 .f32) (b1 : Vec Ideal S64 .f32) (w2 : Vec Ideal S32x64 .f32) (b2 : Vec Ideal S32 .f32) (w3 : Vec Ideal S1x32 .f32) (r : Fin 1024) :
    refVal x e lw lb w1 b1 w2 b2 w3 (ix1 r)
      = ∑ k : Fin 100000, x (ix2 r k) * lw (ix2 0 k) + lb (ix1 0)
        + layers (fun d => half * ((∑ k : Fin 100000, x (ix2 r k) * e (ix2 k d)) * (∑ k : Fin 100000, x (ix2 r k) * e (ix2 k d)) - ∑ k : Fin 100000, x (ix2 r k) * x (ix2 r k) * (e (ix2 k d) * e (ix2 k d)))) w1 b1 w2 b2 w3 := by
  pointwise [refVal, layers, half]

end Cert.Nfm.Reference

end
-- ==== Proof.Equation.lean ====
module

public import proofs.«01_k».proof.Proof.Accumulated
public import proofs.«01_k».proof.Proof.Operands
public import proofs.«01_k».proof.Proof.RefValue

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The kernel's rows are the reference's -/

/-- The columns of the wide row: an embedding in the first 64, -/
theorem wideAt_emb (e : Fin 64 → EReal) (l : Fin 2 → EReal) (d : Fin 64) : wideAt e l ⟨d.val, by omega⟩ = e d := dif_pos d.isLt
/-- the embedding less itself in the next 62, -/
theorem wideAt_rest (e : Fin 64 → EReal) (l : Fin 2 → EReal) (d : Fin 62) : wideAt e l ⟨64 + d.val, by omega⟩ = e ⟨d.val, by omega⟩ - e ⟨d.val, by omega⟩ := by
  have h : 64 + d.val - 64 = d.val := by omega
  simp only [wideAt, h, d.isLt, dif_pos, show ¬ 64 + d.val < 64 by omega, dif_neg, not_false_eq_true]
/-- the two parts of the linear weight in the last two. -/
theorem wideAt_fst (e : Fin 64 → EReal) (l : Fin 2 → EReal) : wideAt e l 126 = l 0 := rfl
theorem wideAt_snd (e : Fin 64 → EReal) (l : Fin 2 → EReal) : wideAt e l 127 = l 1 := rfl

/-- With finite linear weights, the output from the accumulators of operands `x`, `e` and the split of `lw` is the
    reference's result of the same arrays. -/
theorem finish_eq (c : Dev nD) (x : Vec Ideal S1024x100000 .f32) (e : Vec Ideal S100000x64 .f32) (lw : Vec Ideal S1x100000 .f32) (w1 : Vec Ideal S64x64 .f32) (b1 : Vec Ideal S64 .f32) (w2 : Vec Ideal S32x64 .f32) (b2 : Vec Ideal S32 .f32) (w3 : Vec Ideal S1x32 .f32) (lb : Vec Ideal S1 .f32)
    (hfin : ∀ k : Fin 100000, ¬ IsInf (lw (ix2 0 k))) (r : Fin 1024) :
    finish (accDone (F := Ideal) c x e (splitVal lw)) (sqDone (F := Ideal) c x e) w1 b1 w2 b2 w3 lb (ix1 r)
      = Reference.refVal x e lw lb w1 b1 w2 b2 w3 (ix1 r) := by
  rw [Reference.refVal_at, finish_at _ _ w1 b1 w2 b2 w3 lb r (fun d => (∑ k : Fin 100000, x (ix2 r k) * e (ix2 k d)) * (∑ k : Fin 100000, x (ix2 r k) * e (ix2 k d)))
    (fun d => ?_) (fun d => ?_)]
  · have h1 : accDone (F := Ideal) c x e (splitVal lw) (ix2 r 126) = ∑ k : Fin 100000, x (ix2 r k) * lw (ix2 0 k) := by
      rw [accDone_at]
      exact Finset.sum_congr rfl fun k _ => by rw [accTerm, wideAt_fst, splitVal_fst]
    have h2 : accDone (F := Ideal) c x e (splitVal lw) (ix2 r 127) = 0 := by
      rw [accDone_at]
      exact Finset.sum_eq_zero fun k _ => by rw [accTerm, wideAt_snd, splitVal_snd, sub_self_of_finite (hfin k), mul_zero]
    rw [h1, h2, add_zero]
    simp only [sqDone_at, sqTerm]
    rw [add_comm (layers _ w1 b1 w2 b2 w3), add_right_comm]
  · rw [accDone_at, accDone_at]
    simp only [accTerm, wideAt_rest]
    rw [Finset.sum_congr rfl fun k _ => congrArg (x (ix2 r k) * ·) (wideAt_emb (fun d => e (ix2 k d)) (fun d => splitVal lw (ix2 k d)) ⟨d.val, by omega⟩)]
    exact mul_self_corrected Finset.univ (fun k => x (ix2 r k)) (fun k => e (ix2 k ⟨d.val, by omega⟩))
  · rw [accDone_at]
    simp only [accTerm]
    rw [Finset.sum_congr rfl fun k _ => congrArg (x (ix2 r k) * ·) (wideAt_emb (fun d => e (ix2 k d)) (fun d => splitVal lw (ix2 k d)) ⟨62 + d.val, by omega⟩)]

/-- So the kernel's output is the reference's result of the launch's arrays. -/
theorem outVal_eq (m : (ℓ : Loc nD τ sig) → Buf (Elt Ideal) ℓ) (c : Dev nD)
    (hfin : ∀ k : Fin 100000, ¬ IsInf ((m ((c : Thread nD τ).loc main_arg3) : Vec Ideal S1x100000 .f32) (ix2 0 k))) :
    outVal m c lastPt = Reference.refVal (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  funext j
  rw [outVal, V_main_arg0, V_main_arg2, split_weights, block_w1, block_b1, block_w2, block_b2, block_w3, block_b3, ValueIdx.eq_ix1 j]
  exact finish_eq c _ _ _ _ _ _ _ _ _ hfin (j 0)

end Cert.Nfm

end
-- ==== Proof.Precondition.lean ====
module

public import proofs.«01_k».proof.Proof.Squares
public import proofs.«01_k».proof.Proof.Setup
public import proofs.«01_k».proof.Proof.Gen.Pre_linear_weights_finite
public import Idealize.ShloMosaic.Lib.Pointwise

@[expose] public section

set_option maxRecDepth 16384

noncomputable section

namespace Cert.Nfm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The precondition -/

/-- Where the precondition holds, every linear weight is finite. -/
theorem finite_of_pre (x : FVec Ideal S1024x100000 .f32) (t : IVec Pre_linear_weights_finite.S_ 32) (e : FVec Ideal S100000x64 .f32) (lw : FVec Ideal S1x100000 .f32) (lb : FVec Ideal S1 .f32) (w1 : FVec Ideal S64x64 .f32) (b1 : FVec Ideal S64 .f32) (w2 : FVec Ideal S32x64 .f32) (b2 : FVec Ideal S32 .f32) (w3 : FVec Ideal S1x32 .f32)
    (h : Pre_linear_weights_finite.fn (F := Ideal) x t e lw lb w1 b1 w2 b2 w3 = fun _ => 1#1) (k : Fin 100000) : ¬ IsInf (lw (ix2 0 k)) := by
  have hk := congrFun h (ix2 0 k)
  revert hk
  pointwise [Pre_linear_weights_finite.fn]
  intro hk hinf
  have habs : FloatOps.absf (F := Ideal) (φ := .f32) (lw (ix2 0 k)) = (⊤ : EReal) := by
    rw [Ideal.absf_def]
    rcases hinf with h | h <;> rw [h] <;> simp
  rw [habs, decide_eq_false not_top_lt] at hk
  exact absurd hk (by decide)

end Cert.Nfm

end
-- ==== Proof.lean ====
module

public import proofs.«01_k».proof.Defs
public import proofs.«01_k».proof.Proof.Gen.ReferenceIdeal
public import proofs.«01_k».proof.Proof.Gen.Pre_linear_weights_finite
public import proofs.«01_k».proof.Proof.Frames
public import proofs.«01_k».proof.Proof.Equation
public import proofs.«01_k».proof.Proof.Precondition

@[expose] public section

noncomputable section

namespace Cert.Proof

open Idealize.ShloMosaic Idealize.ShloMosaic.TcCoe Idealize.SL.Sem

/-- With finite linear weights, the kernel's result and the reference's are one array, and both leave their arguments. -/
theorem algebraic : Cert.algebraic_KernelIdeal_ReferenceIdeal_pre_linear_weights_finite (hKernelIdeal := Cert.KernelIdeal.Gen.facts)
    (hReferenceIdeal := Cert.ReferenceIdeal.Gen.facts) (hPre_linear_weights_finite := Cert.Pre_linear_weights_finite.Gen.facts) := by
  intro m g m' g' hpre hargs
  refine ⟨fun c => Cert.Nfm.outVal m c Cert.Nfm.lastPt, Cert.Nfm.result_all m g, ?_⟩
  refine (θ_run Cert.ReferenceIdeal.defs _ _).mono (fun r h c => ⟨(h c).1.trans ?_, (h c).2⟩) (Cert.Nfm.Reference.result_all m' g')
  obtain ⟨h0, _, h2, h3, h4, h5, h6, h7, h8, h9⟩ := hargs c
  have e := Cert.Nfm.outVal_eq m c (Cert.Nfm.finite_of_pre _ _ _ _ _ _ _ _ _ _ (hpre c))
  exact (congr (congr (congr (congr (congr (congr (congr (congr (congrArg Cert.Nfm.Reference.refVal h0) h2) h3) h4) h5) h6) h7) h8) h9).trans e.symm

/-- Every claim of the certificate. -/
theorem claim : Cert.Claim := ⟨Cert.Kernel.Gen.facts, Cert.KernelIdeal.Gen.facts, Cert.ReferenceIdeal.Gen.facts, Cert.Pre_linear_weights_finite.Gen.facts,
  fun m g _ => Cert.Nfm.kernel_frame m g, fun m g _ => Cert.Nfm.frame_all m g, fun m g _ => Cert.Nfm.frame_all m g,
  fun m g _ => Cert.Nfm.Reference.frame_all m g, fun m g _ => Cert.Nfm.Reference.frame_all m g, trivial, algebraic⟩

end Cert.Proof

end
